-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_6) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v3_8) = v3 c
          ∧ r.2.mem ((c.tc : Thread Cert.ReferenceIdeal.nD Cert.ReferenceIdeal.τ).loc Cert.ReferenceIdeal.main_v3_9) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x512x4096 : Shape := ⟨3, ![16, 512, 4096]⟩
abbrev S9x8x512 : Shape := ⟨3, ![9, 8, 512]⟩
abbrev S9x8 : Shape := ⟨2, ![9, 8]⟩
abbrev S9x512x8 : Shape := ⟨3, ![9, 512, 8]⟩
abbrev S9x512 : Shape := ⟨2, ![9, 512]⟩
abbrev S9x1024x8 : Shape := ⟨3, ![9, 1024, 8]⟩
abbrev S_ : Shape := ⟨0, ![]⟩

class Facts : Prop where
  bcast_S_S16x512x4096 : S_.BroadcastsInDim S16x512x4096 (![] : Fin 0 → Fin S16x512x4096.rank)
  reducesTo_S16x512x4096_S_d0_1_2 : S16x512x4096.ReducesTo [0, 1, 2] S_
  h_S_ : 0 < S_.numel
  bcast_S_S9x8x512 : S_.BroadcastsInDim S9x8x512 (![] : Fin 0 → Fin S9x8x512.rank)
  reducesTo_S9x8x512_S_d0_1_2 : S9x8x512.ReducesTo [0, 1, 2] S_
  bcast_S_S9x8 : S_.BroadcastsInDim S9x8 (![] : Fin 0 → Fin S9x8.rank)
  reducesTo_S9x8_S_d0_1 : S9x8.ReducesTo [0, 1] S_
  bcast_S_S9x512x8 : S_.BroadcastsInDim S9x512x8 (![] : Fin 0 → Fin S9x512x8.rank)
  reducesTo_S9x512x8_S_d0_1_2 : S9x512x8.ReducesTo [0, 1, 2] S_
  bcast_S_S9x512 : S_.BroadcastsInDim S9x512 (![] : Fin 0 → Fin S9x512.rank)
  reducesTo_S9x512_S_d0_1 : S9x512.ReducesTo [0, 1] S_
  bcast_S_S9x1024x8 : S_.BroadcastsInDim S9x1024x8 (![] : Fin 0 → Fin S9x1024x8.rank)
  reducesTo_S9x1024x8_S_d0_1_2 : S9x1024x8.ReducesTo [0, 1, 2] S_

variable [Facts]

def fn_part1 {F : FTy → Type} [FloatOps F] (main_arg4 : FVec F S9x512 .f32) (main_arg5 : FVec F S9x1024x8 .f32) (main_v13 : IVec S_ 1) (main_v16 : IVec S9x512x8 1) : IVec S_ 1 :=
  let main_c_5 : IVec S_ 1 := constantI S_ 1 1#1
  let main_v17 : IVec S_ 1 := (fun x v => Host.reduce IntOp.andi x v reducesTo_S9x512x8_S_d0_1_2 h_S_) main_v16 main_c_5
  let main_v18 : IVec S_ 1 := andi main_v13 main_v17
  let main_v19 : FVec F S9x512 .f32 := Host.absf main_arg4
  let main_cst_6 : FVec F S_ .f32 := constant S_ .f32 0x7F800000#32
  let main_v20 : FVec F S9x512 .f32 := broadcastInDim S9x512 ![] bcast_S_S9x512 main_cst_6
  let main_v21 : IVec S9x512 1 := cmpf .olt main_v19 main_v20
  let main_c_7 : IVec S_ 1 := constantI S_ 1 1#1
  let main_v22 : IVec S_ 1 := (fun x v => Host.reduce IntOp.andi x v reducesTo_S9x512_S_d0_1 h_S_) main_v21 main_c_7
  let main_v23 : IVec S_ 1 := andi main_v18 main_v22
  let main_v24 : FVec F S9x1024x8 .f32 := Host.absf main_arg5
  let main_cst_8 : FVec F S_ .f32 := constant S_ .f32 0x7F800000#32
  let main_v25 : FVec F S9x1024x8 .f32 := broadcastInDim S9x1024x8 ![] bcast_S_S9x1024x8 main_cst_8
  let main_v26 : IVec S9x1024x8 1 := cmpf .olt main_v24 main_v25
  let main_c_9 : IVec S_ 1 := constantI S_ 1 1#1
  let main_v27 : IVec S_ 1 := (fun x v => Host.reduce IntOp.andi x v reducesTo_S9x1024x8_S_d0_1_2 h_S_) main_v26 main_c_9
  let main_v28 : IVec S_ 1 := andi main_v23 main_v27
  main_v28

def fn {F : FTy → Type} [FloatOps F] (main_arg0 : FVec F S16x512x4096 .f32) (main_arg1 : FVec F S9x8x512 .f32) (main_arg2 : FVec F S9x8 .f32) (main_arg3 : FVec F S9x512x8 .f32) (main_arg4 : FVec F S9x512 .f32) (main_arg5 : FVec F S9x1024x8 .f32) : IVec S_ 1 :=
  let main_v0 : FVec F S16x512x4096 .f32 := Host.absf main_arg0
  let main_cst : FVec F S_ .f32 := constant S_ .f32 0x7F800000#32
  let main_v1 : FVec F S16x512x4096 .f32 := broadcastInDim S16x512x4096 ![] bcast_S_S16x512x4096 main_cst
  let main_v2 : IVec S16x512x4096 1 := cmpf .olt main_v0 main_v1
  let main_c : IVec S_ 1 := constantI S_ 1 1#1
  let main_v3 : IVec S_ 1 := (fun x v => Host.reduce IntOp.andi x v reducesTo_S16x512x4096_S_d0_1_2 h_S_) main_v2 main_c
  let main_v4 : FVec F S9x8x512 .f32 := Host.absf main_arg1
  let main_cst_0 : FVec F S_ .f32 := constant S_ .f32 0x7F800000#32
  let main_v5 : FVec F S9x8x512 .f32 := broadcastInDim S9x8x512 ![] bcast_S_S9x8x512 main_cst_0
  let main_v6 : IVec S9x8x512 1 := cmpf .olt main_v4 main_v5
  let main_c_1 : IVec S_ 1 := constantI S_ 1 1#1
  let main_v7 : IVec S_ 1 := (fun x v => Host.reduce IntOp.andi x v reducesTo_S9x8x512_S_d0_1_2 h_S_) main_v6 main_c_1
  let main_v8 : IVec S_ 1 := andi main_v3 main_v7
  let main_v9 : FVec F S9x8 .f32 := Host.absf main_arg2
  let main_cst_2 : FVec F S_ .f32 := constant S_ .f32 0x7F800000#32
  let main_v10 : FVec F S9x8 .f32 := broadcastInDim S9x8 ![] bcast_S_S9x8 main_cst_2
  let main_v11 : IVec S9x8 1 := cmpf .olt main_v9 main_v10
  let main_c_3 : IVec S_ 1 := constantI S_ 1 1#1
  let main_v12 : IVec S_ 1 := (fun x v => Host.reduce IntOp.andi x v reducesTo_S9x8_S_d0_1 h_S_) main_v11 main_c_3
  let main_v13 : IVec S_ 1 := andi main_v8 main_v12
  let main_v14 : FVec F S9x512x8 .f32 := Host.absf main_arg3
  let main_cst_4 : FVec F S_ .f32 := constant S_ .f32 0x7F800000#32
  let main_v15 : FVec F S9x512x8 .f32 := broadcastInDim S9x512x8 ![] bcast_S_S9x512x8 main_cst_4
  let main_v16 : IVec S9x512x8 1 := cmpf .olt main_v14 main_v15
  fn_part1 (F := F) main_arg4 main_arg5 main_v13 main_v16
-- ==== Kernel.lean ====
abbrev S16x512x4096 : Shape := ⟨3, ![16, 512, 4096]⟩
abbrev S9x8x512 : Shape := ⟨3, ![9, 8, 512]⟩
abbrev S9x8 : Shape := ⟨2, ![9, 8]⟩
abbrev S9x512x8 : Shape := ⟨3, ![9, 512, 8]⟩
abbrev S9x512 : Shape := ⟨2, ![9, 512]⟩
abbrev S9x1024x8 : Shape := ⟨3, ![9, 1024, 8]⟩
abbrev S9x1024x9 : Shape := ⟨3, ![9, 1024, 9]⟩
abbrev S9x1024 : Shape := ⟨2, ![9, 1024]⟩
abbrev S9x1024x1 : Shape := ⟨3, ![9, 1024, 1]⟩
abbrev S9x8x128x8 : Shape := ⟨4, ![9, 8, 128, 8]⟩
abbrev S9x128x8x8 : Shape := ⟨4, ![9, 128, 8, 8]⟩
abbrev S9x128x64 : Shape := ⟨3, ![9, 128, 64]⟩
abbrev S16x9x4096 : Shape := ⟨3, ![16, 9, 4096]⟩
abbrev S16x72x4096 : Shape := ⟨3, ![16, 72, 4096]⟩
abbrev S32x1x128 : Shape := ⟨3, ![32, 1, 128]⟩
abbrev S1x512x2048 : Shape := ⟨3, ![1, 512, 2048]⟩
abbrev S1x9x2048 : Shape := ⟨3, ![1, 9, 2048]⟩
abbrev S1x72x2048 : Shape := ⟨3, ![1, 72, 2048]⟩
abbrev S1x1x128 : Shape := ⟨3, ![1, 1, 128]⟩
abbrev S512x2048 : Shape := ⟨2, ![512, 2048]⟩
abbrev S1024x2048 : Shape := ⟨2, ![1024, 2048]⟩
abbrev S128x2048 : Shape := ⟨2, ![128, 2048]⟩
abbrev S64x2048 : Shape := ⟨2, ![64, 2048]⟩
abbrev S1x2048 : Shape := ⟨2, ![1, 2048]⟩
abbrev S1x8x512 : Shape := ⟨3, ![1, 8, 512]⟩
abbrev S8x512 : Shape := ⟨2, ![8, 512]⟩
abbrev S1x8 : Shape := ⟨2, ![1, 8]⟩
abbrev S8 : Shape := ⟨1, ![8]⟩
abbrev S1x512x8 : Shape := ⟨3, ![1, 512, 8]⟩
abbrev S512x8 : Shape := ⟨2, ![512, 8]⟩
abbrev S1x512 : Shape := ⟨2, ![1, 512]⟩
abbrev S512 : Shape := ⟨1, ![512]⟩
abbrev S1x128x64 : Shape := ⟨3, ![1, 128, 64]⟩
abbrev S128x64 : Shape := ⟨2, ![128, 64]⟩
abbrev S1x1024x9 : Shape := ⟨3, ![1, 1024, 9]⟩
abbrev S1024x9 : Shape := ⟨2, ![1024, 9]⟩
abbrev S8x2048 : Shape := ⟨2, ![8, 2048]⟩
abbrev S8x1 : Shape := ⟨2, ![8, 1]⟩
abbrev S2048 : Shape := ⟨1, ![2048]⟩
abbrev S9x2048 : Shape := ⟨2, ![9, 2048]⟩
abbrev S8x8x2048 : Shape := ⟨3, ![8, 8, 2048]⟩
abbrev S1x8x2048 : Shape := ⟨3, ![1, 8, 2048]⟩
abbrev S1 : Shape := ⟨1, ![1]⟩
abbrev S1x1x1 : Shape := ⟨3, ![1, 1, 1]⟩
abbrev S512x1 : Shape := ⟨2, ![512, 1]⟩
abbrev S512x9 : Shape := ⟨2, ![512, 9]⟩
abbrev S1x1x2048 : Shape := ⟨3, ![1, 1, 2048]⟩
abbrev S128 : Shape := ⟨1, ![128]⟩
abbrev S32x1x1 : Shape := ⟨3, ![32, 1, 1]⟩
abbrev S32 : Shape := ⟨1, ![32]⟩
abbrev S_ : Shape := ⟨0, ![]⟩

abbrev nBuf : Space → Nat
  | .hbm => 20
  | .vmem => 18
  | .smem => 0
  | _ => 0

abbrev bufTy : (tb : Table) → Fin (tcTables nBuf tb) → BufTy
  | .hbm, ⟨0, _⟩ => ⟨S16x512x4096, .f32⟩
  | .hbm, ⟨1, _⟩ => ⟨S9x8x512, .f32⟩
  | .hbm, ⟨2, _⟩ => ⟨S9x8, .f32⟩
  | .hbm, ⟨3, _⟩ => ⟨S9x512x8, .f32⟩
  | .hbm, ⟨4, _⟩ => ⟨S9x512, .f32⟩
  | .hbm, ⟨5, _⟩ => ⟨S9x1024x8, .f32⟩
  | .hbm, ⟨6, _⟩ => ⟨S9x1024x9, .f32⟩
  | .hbm, ⟨7, _⟩ => ⟨S9x8x128x8, .f32⟩
  | .hbm, ⟨8, _⟩ => ⟨S9x128x8x8, .f32⟩
  | .hbm, ⟨9, _⟩ => ⟨S9x128x64, .f32⟩
  | .hbm, ⟨10, _⟩ => ⟨S16x512x4096, .f32⟩
  | .hbm, ⟨11, _⟩ => ⟨S16x9x4096, .i32⟩
  | .hbm, ⟨12, _⟩ => ⟨S16x72x4096, .f32⟩
  | .hbm, ⟨13, _⟩ => ⟨S32x1x128, .f32⟩
  | .hbm, ⟨14, _⟩ => ⟨S32x1x1, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S9x1024x8, .f32⟩
  | .local _ .vmem, ⟨1, _⟩ => ⟨S9x1024x9, .f32⟩
  | .local _ .vmem, ⟨2, _⟩ => ⟨S1x512x2048, .f32⟩
  | .local _ .vmem, ⟨3, _⟩ => ⟨S1x512x2048, .f32⟩
  | .local _ .vmem, ⟨4, _⟩ => ⟨S9x8x512, .f32⟩
  | .local _ .vmem, ⟨5, _⟩ => ⟨S9x8, .f32⟩
  | .local _ .vmem, ⟨6, _⟩ => ⟨S9x512x8, .f32⟩
  | .local _ .vmem, ⟨7, _⟩ => ⟨S9x512, .f32⟩
  | .local _ .vmem, ⟨8, _⟩ => ⟨S9x128x64, .f32⟩
  | .local _ .vmem, ⟨9, _⟩ => ⟨S9x1024x9, .f32⟩
  | .local _ .vmem, ⟨10, _⟩ => ⟨S1x512x2048, .f32⟩
  | .local _ .vmem, ⟨11, _⟩ => ⟨S1x512x2048, .f32⟩
  | .local _ .vmem, ⟨12, _⟩ => ⟨S1x9x2048, .i32⟩
  | .local _ .vmem, ⟨13, _⟩ => ⟨S1x9x2048, .i32⟩
  | .local _ .vmem, ⟨14, _⟩ => ⟨S1x72x2048, .f32⟩
  | .local _ .vmem, ⟨15, _⟩ => ⟨S1x72x2048, .f32⟩
  | .local _ .vmem, ⟨16, _⟩ => ⟨S1x1x128, .f32⟩
  | .local _ .vmem, ⟨17, _⟩ => ⟨S1x1x128, .f32⟩
  | _, _ => ⟨S16x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg7_1 : Ref sig .tc := ⟨.vmem, 11, rfl⟩
abbrev cc1_stg8_0 : Ref sig .tc := ⟨.vmem, 12, rfl⟩
abbrev cc1_stg8_1 : Ref sig .tc := ⟨.vmem, 13, rfl⟩
abbrev cc1_stg9_0 : Ref sig .tc := ⟨.vmem, 14, rfl⟩
abbrev cc1_stg9_1 : Ref sig .tc := ⟨.vmem, 15, rfl⟩
abbrev cc1_stg10_0 : Ref sig .tc := ⟨.vmem, 16, rfl⟩
abbrev cc1_stg10_1 : Ref sig .tc := ⟨.vmem, 17, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem7_1 : DmaSem sig := 11
abbrev cc1_sem8_0 : DmaSem sig := 12
abbrev cc1_sem8_1 : DmaSem sig := 13
abbrev cc1_sem9_0 : DmaSem sig := 14
abbrev cc1_sem9_1 : DmaSem sig := 15
abbrev cc1_sem10_0 : DmaSem sig := 16
abbrev cc1_sem10_1 : DmaSem sig := 17

abbrev nD : Nat := 1
abbrev τ : Topo := Topo.v7x

variable {F : FTy → Type} [FloatOps F]

abbrev grid0 : Pipeline.Grid := .none

abbrev stage0_0 : Fin 1 → Memref sig .tc .vmem S9x1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x1024x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_10 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S9x8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S9x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S9x512x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S9x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S9x128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S9x1024x9 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x9x2048 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x72x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ReferenceIdeal.lean ====
abbrev S16x512x4096 : Shape := ⟨3, ![16, 512, 4096]⟩
abbrev S9x8x512 : Shape := ⟨3, ![9, 8, 512]⟩
abbrev S9x8 : Shape := ⟨2, ![9, 8]⟩
abbrev S9x512x8 : Shape := ⟨3, ![9, 512, 8]⟩
abbrev S9x512 : Shape := ⟨2, ![9, 512]⟩
abbrev S9x1024x8 : Shape := ⟨3, ![9, 1024, 8]⟩
abbrev S_ : Shape := ⟨0, ![]⟩
abbrev S9x16x4096 : Shape := ⟨3, ![9, 16, 4096]⟩
abbrev S9x16x8x4096 : Shape := ⟨4, ![9, 16, 8, 4096]⟩
abbrev S1x8x512 : Shape := ⟨3, ![1, 8, 512]⟩
abbrev S8x512 : Shape := ⟨2, ![8, 512]⟩
abbrev S1x8 : Shape := ⟨2, ![1, 8]⟩
abbrev S8 : Shape := ⟨1, ![8]⟩
abbrev S1x512x8 : Shape := ⟨3, ![1, 512, 8]⟩
abbrev S512x8 : Shape := ⟨2, ![512, 8]⟩
abbrev S1x512 : Shape := ⟨2, ![1, 512]⟩
abbrev S512 : Shape := ⟨1, ![512]⟩
abbrev S1x1024x8 : Shape := ⟨3, ![1, 1024, 8]⟩
abbrev S1024x8 : Shape := ⟨2, ![1024, 8]⟩
abbrev S16x4096x8 : Shape := ⟨3, ![16, 4096, 8]⟩
abbrev S16x8x4096 : Shape := ⟨3, ![16, 8, 4096]⟩
abbrev S1x8x1 : Shape := ⟨3, ![1, 8, 1]⟩
abbrev S65536x8 : Shape := ⟨2, ![65536, 8]⟩
abbrev S65536 : Shape := ⟨1, ![65536]⟩
abbrev S65536x1 : Shape := ⟨2, ![65536, 1]⟩
abbrev S1024 : Shape := ⟨1, ![1024]⟩
abbrev S1024x1 : Shape := ⟨2, ![1024, 1]⟩
abbrev S8x1024 : Shape := ⟨2, ![8, 1024]⟩
abbrev S65536x1024 : Shape := ⟨2, ![65536, 1024]⟩
abbrev S1x1024 : Shape := ⟨2, ![1, 1024]⟩
abbrev S1 : Shape := ⟨1, ![1]⟩
abbrev S1x1 : Shape := ⟨2, ![1, 1]⟩
abbrev S16x4096 : Shape := ⟨2, ![16, 4096]⟩
abbrev S16 : Shape := ⟨1, ![16]⟩
abbrev S16x4096x512 : Shape := ⟨3, ![16, 4096, 512]⟩
abbrev S1x512x1 : Shape := ⟨3, ![1, 512, 1]⟩
abbrev S1x16x4096 : Shape := ⟨3, ![1, 16, 4096]⟩
abbrev S1x16x8x4096 : Shape := ⟨4, ![1, 16, 8, 4096]⟩
abbrev S16x9x4096 : Shape := ⟨3, ![16, 9, 4096]⟩
abbrev S16x9x8x4096 : Shape := ⟨4, ![16, 9, 8, 4096]⟩
abbrev S16x72x4096 : Shape := ⟨3, ![16, 72, 4096]⟩

abbrev nBuf : Space → Nat
  | .hbm => 170
  | .vmem => 0
  | .smem => 0
  | _ => 0

abbrev hbmTy0_0 (i : Nat) : BufTy := match i % 128 with
  | 0 => ⟨S16x512x4096, .f32⟩
  | 1 => ⟨S9x8x512, .f32⟩
  | 2 => ⟨S9x8, .f32⟩
  | 3 => ⟨S9x512x8, .f32⟩
  | 4 => ⟨S9x512, .f32⟩
  | 5 => ⟨S9x1024x8, .f32⟩
  | 6 => ⟨S_, .f32⟩
  | 7 => ⟨S16x512x4096, .f32⟩
  | 8 => ⟨S_, .f32⟩
  | 9 => ⟨S_, .f32⟩
  | 10 => ⟨S_, .i32⟩
  | 11 => ⟨S9x16x4096, .i32⟩
  | 12 => ⟨S_, .f32⟩
  | 13 => ⟨S9x16x8x4096, .f32⟩
  | 14 => ⟨S_, .i32⟩
  | 15 => ⟨S9x8x512, .f32⟩
  | 16 => ⟨S9x8, .f32⟩
  | 17 => ⟨S9x512x8, .f32⟩
  | 18 => ⟨S9x512, .f32⟩
  | 19 => ⟨S9x1024x8, .f32⟩
  | 20 => ⟨S_, .i32⟩
  | 21 => ⟨S16x512x4096, .f32⟩
  | 22 => ⟨S16x512x4096, .f32⟩
  | 23 => ⟨S_, .f32⟩
  | 24 => ⟨S_, .f32⟩
  | 25 => ⟨S9x16x4096, .i32⟩
  | 26 => ⟨S9x16x8x4096, .f32⟩
  | 27 => ⟨S_, .i32⟩
  | 28 => ⟨S_, .i1⟩
  | 29 => ⟨S_, .i32⟩
  | 30 => ⟨S_, .i32⟩
  | 31 => ⟨S1x8x512, .f32⟩
  | 32 => ⟨S8x512, .f32⟩
  | 33 => ⟨S_, .i32⟩
  | 34 => ⟨S1x8, .f32⟩
  | 35 => ⟨S8, .f32⟩
  | 36 => ⟨S_, .i32⟩
  | 37 => ⟨S_, .i32⟩
  | 38 => ⟨S1x512x8, .f32⟩
  | 39 => ⟨S512x8, .f32⟩
  | 40 => ⟨S_, .i32⟩
  | 41 => ⟨S1x512, .f32⟩
  | 42 => ⟨S512, .f32⟩
  | 43 => ⟨S_, .i32⟩
  | 44 => ⟨S_, .i32⟩
  | 45 => ⟨S1x1024x8, .f32⟩
  | 46 => ⟨S1024x8, .f32⟩
  | 47 => ⟨S16x4096x8, .f32⟩
  | 48 => ⟨S16x8x4096, .f32⟩
  | 49 => ⟨S1x8x1, .f32⟩
  | 50 => ⟨S16x8x4096, .f32⟩
  | 51 => ⟨S16x8x4096, .f32⟩
  | 52 => ⟨S16x4096x8, .f32⟩
  | 53 => ⟨S65536x8, .f32⟩
  | 54 => ⟨S65536x8, .f32⟩
  | 55 => ⟨S_, .f32⟩
  | 56 => ⟨S65536, .f32⟩
  | 57 => ⟨S65536x1, .f32⟩
  | 58 => ⟨S65536x1, .f32⟩
  | 59 => ⟨S_, .f32⟩
  | 60 => ⟨S65536x1, .f32⟩
  | 61 => ⟨S65536x1, .f32⟩
  | 62 => ⟨S65536x8, .f32⟩
  | 63 => ⟨S65536x8, .f32⟩
  | 64 => ⟨S1024x8, .f32⟩
  | 65 => ⟨S_, .f32⟩
  | 66 => ⟨S1024, .f32⟩
  | 67 => ⟨S1024x1, .f32⟩
  | 68 => ⟨S1024x1, .f32⟩
  | 69 => ⟨S_, .f32⟩
  | 70 => ⟨S1024x1, .f32⟩
  | 71 => ⟨S1024x1, .f32⟩
  | 72 => ⟨S1024x8, .f32⟩
  | 73 => ⟨S1024x8, .f32⟩
  | 74 => ⟨S65536x8, .f32⟩
  | 75 => ⟨S_, .f32⟩
  | 76 => ⟨S65536, .f32⟩
  | 77 => ⟨S65536x1, .f32⟩
  | 78 => ⟨S8x1024, .f32⟩
  | 79 => ⟨S65536x1024, .f32⟩
  | 80 => ⟨S_, .f32⟩
  | 81 => ⟨S65536x1024, .f32⟩
  | 82 => ⟨S65536x1024, .f32⟩
  | 83 => ⟨S65536x1024, .f32⟩
  | 84 => ⟨S65536x1024, .f32⟩
  | 85 => ⟨S1024x8, .f32⟩
  | 86 => ⟨S_, .f32⟩
  | 87 => ⟨S1024, .f32⟩
  | 88 => ⟨S1x1024, .f32⟩
  | 89 => ⟨S65536x1024, .f32⟩
  | 90 => ⟨S65536x1024, .f32⟩
  | 91 => ⟨S65536x1024, .f32⟩
  | 92 => ⟨S65536x1024, .i32⟩
  | 93 => ⟨S_, .f32⟩
  | 94 => ⟨S_, .i32⟩
  | 95 => ⟨S65536, .f32⟩
  | 96 => ⟨S65536, .i32⟩
  | 97 => ⟨S_, .i32⟩
  | 98 => ⟨S65536, .i32⟩
  | 99 => ⟨S65536, .i1⟩
  | 100 => ⟨S_, .i32⟩
  | 101 => ⟨S65536, .i32⟩
  | 102 => ⟨S65536, .i32⟩
  | 103 => ⟨S65536, .i32⟩
  | 104 => ⟨S65536x1, .i32⟩
  | 105 => ⟨S1, .i32⟩
  | 106 => ⟨S_, .i32⟩
  | 107 => ⟨S65536x1, .i32⟩
  | 108 => ⟨S65536x1, .i1⟩
  | 109 => ⟨S1x1, .i32⟩
  | 110 => ⟨S65536x1, .i32⟩
  | 111 => ⟨S65536x1, .i1⟩
  | 112 => ⟨S65536x1, .i1⟩
  | 113 => ⟨S_, .i1⟩
  | 114 => ⟨S65536, .i1⟩
  | 115 => ⟨S65536x8, .f32⟩
  | 116 => ⟨S65536x8, .i1⟩
  | 117 => ⟨S_, .f32⟩
  | 118 => ⟨S65536x8, .f32⟩
  | 119 => ⟨S65536x8, .f32⟩
  | 120 => ⟨S16x4096x8, .f32⟩
  | 121 => ⟨S16x8x4096, .f32⟩
  | 122 => ⟨S16x4096, .i32⟩
  | 123 => ⟨S16x8x4096, .f32⟩
  | 124 => ⟨S16x8x4096, .f32⟩
  | 125 => ⟨S_, .f32⟩
  | 126 => ⟨S16, .f32⟩
  | 127 => ⟨S_, .f32⟩
  | _ => ⟨S16x512x4096, .f32⟩

abbrev hbmTy0_1 (i : Nat) : BufTy := match i % 128 with
  | 0 => ⟨S16, .f32⟩
  | 1 => ⟨S16, .f32⟩
  | 2 => ⟨S16x8x4096, .f32⟩
  | 3 => ⟨S16x8x4096, .f32⟩
  | 4 => ⟨S_, .f32⟩
  | 5 => ⟨S16, .f32⟩
  | 6 => ⟨S_, .f32⟩
  | 7 => ⟨S16, .f32⟩
  | 8 => ⟨S16, .f32⟩
  | 9 => ⟨S16x8x4096, .f32⟩
  | 10 => ⟨S16x8x4096, .f32⟩
  | 11 => ⟨S16x4096x512, .f32⟩
  | 12 => ⟨S16x512x4096, .f32⟩
  | 13 => ⟨S1x512x1, .f32⟩
  | 14 => ⟨S16x512x4096, .f32⟩
  | 15 => ⟨S16x512x4096, .f32⟩
  | 16 => ⟨S16x512x4096, .f32⟩
  | 17 => ⟨S16x512x4096, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S1x16x4096, .i32⟩
  | 29 => ⟨S_, .i32⟩
  | 30 => ⟨S_, .i32⟩
  | 31 => ⟨S9x16x4096, .i32⟩
  | 32 => ⟨S1x16x8x4096, .f32⟩
  | 33 => ⟨S_, .i32⟩
  | 34 => ⟨S_, .i32⟩
  | 35 => ⟨S_, .i32⟩
  | 36 => ⟨S9x16x8x4096, .f32⟩
  | 37 => ⟨S_, .i32⟩
  | 38 => ⟨S_, .i32⟩
  | 39 => ⟨S16x9x4096, .i32⟩
  | 40 => ⟨S16x9x8x4096, .f32⟩
  | 41 => ⟨S16x72x4096, .f32⟩
  | _ => ⟨S16x512x4096, .f32⟩

abbrev hbmTy (i : Nat) : BufTy := match i / 128 with
  | 0 => hbmTy0_0 i
  | 1 => hbmTy0_1 i
  | _ => ⟨S16x512x4096, .f32⟩

abbrev bufTy : (tb : Table) → Fin (tcTables nBuf tb) → BufTy
  | .hbm, ⟨i, _⟩ => hbmTy i
  | _, _ => ⟨S16x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_cst_1 : Ref sig .tc := ⟨.hbm, 9, rfl⟩
abbrev main_c : Ref sig .tc := ⟨.hbm, 10, rfl⟩
abbrev main_v1 : Ref sig .tc := ⟨.hbm, 11, rfl⟩
abbrev main_cst_2 : Ref sig .tc := ⟨.hbm, 12, rfl⟩
abbrev main_v2 : Ref sig .tc := ⟨.hbm, 13, rfl⟩
abbrev main_c_3 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev main_v3_9 : Ref sig .tc := ⟨.hbm, 24, rfl⟩
abbrev main_v3_10 : Ref sig .tc := ⟨.hbm, 25, rfl⟩
abbrev main_v3_11 : Ref sig .tc := ⟨.hbm, 26, rfl⟩
abbrev main_while0c_c_15 : Ref sig .tc := ⟨.hbm, 27, rfl⟩
abbrev main_while0c_v7 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_v0 : Ref sig .tc := ⟨.hbm, 31, rfl⟩
abbrev main_while0b_v7 : Ref sig .tc := ⟨.hbm, 32, rfl⟩
abbrev main_while0b_call1_c : Ref sig .tc := ⟨.hbm, 33, rfl⟩
abbrev main_while0b_call1_v0 : Ref sig .tc := ⟨.hbm, 34, rfl⟩
abbrev main_while0b_v8 : Ref sig .tc := ⟨.hbm, 35, rfl⟩
abbrev main_while0b_call2_c : Ref sig .tc := ⟨.hbm, 36, rfl⟩
abbrev main_while0b_call2_c_0 : Ref sig .tc := ⟨.hbm, 37, rfl⟩
abbrev main_while0b_call2_v0 : Ref sig .tc := ⟨.hbm, 38, rfl⟩
abbrev main_while0b_v9 : Ref sig .tc := ⟨.hbm, 39, rfl⟩
abbrev main_while0b_call3_c : Ref sig .tc := ⟨.hbm, 40, rfl⟩
abbrev main_while0b_call3_v0 : Ref sig .tc := ⟨.hbm, 41, rfl⟩
abbrev main_while0b_v10 : Ref sig .tc := ⟨.hbm, 42, rfl⟩
abbrev main_while0b_call4_c : Ref sig .tc := ⟨.hbm, 43, rfl⟩
abbrev main_while0b_call4_c_0 : Ref sig .tc := ⟨.hbm, 44, rfl⟩
abbrev main_while0b_call4_v0 : Ref sig .tc := ⟨.hbm, 45, rfl⟩
abbrev main_while0b_v11 : Ref sig .tc := ⟨.hbm, 46, rfl⟩
abbrev main_while0b_v12 : Ref sig .tc := ⟨.hbm, 47, rfl⟩
abbrev main_while0b_v13 : Ref sig .tc := ⟨.hbm, 48, rfl⟩
abbrev main_while0b_v14 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_v18 : Ref sig .tc := ⟨.hbm, 53, rfl⟩
abbrev main_while0b_call5_v0 : Ref sig .tc := ⟨.hbm, 54, rfl⟩
abbrev main_while0b_call5_cst : Ref sig .tc := ⟨.hbm, 55, rfl⟩
abbrev main_while0b_call5_v1 : Ref sig .tc := ⟨.hbm, 56, rfl⟩
abbrev main_while0b_call5_v2 : Ref sig .tc := ⟨.hbm, 57, rfl⟩
abbrev main_while0b_v19 : Ref sig .tc := ⟨.hbm, 58, rfl⟩
abbrev main_while0b_cst_15 : Ref sig .tc := ⟨.hbm, 59, rfl⟩
abbrev main_while0b_v20 : Ref sig .tc := ⟨.hbm, 60, rfl⟩
abbrev main_while0b_v21 : Ref sig .tc := ⟨.hbm, 61, rfl⟩
abbrev main_while0b_v22 : Ref sig .tc := ⟨.hbm, 62, rfl⟩
abbrev main_while0b_v23 : Ref sig .tc := ⟨.hbm, 63, rfl⟩
abbrev main_while0b_call6_v0 : Ref sig .tc := ⟨.hbm, 64, rfl⟩
abbrev main_while0b_call6_cst : Ref sig .tc := ⟨.hbm, 65, rfl⟩
abbrev main_while0b_call6_v1 : Ref sig .tc := ⟨.hbm, 66, rfl⟩
abbrev main_while0b_call6_v2 : Ref sig .tc := ⟨.hbm, 67, rfl⟩
abbrev main_while0b_v24 : Ref sig .tc := ⟨.hbm, 68, rfl⟩
abbrev main_while0b_cst_16 : Ref sig .tc := ⟨.hbm, 69, rfl⟩
abbrev main_while0b_v25 : Ref sig .tc := ⟨.hbm, 70, rfl⟩
abbrev main_while0b_v26 : Ref sig .tc := ⟨.hbm, 71, rfl⟩
abbrev main_while0b_v27 : Ref sig .tc := ⟨.hbm, 72, rfl⟩
abbrev main_while0b_v28 : Ref sig .tc := ⟨.hbm, 73, rfl⟩
abbrev main_while0b_v29 : Ref sig .tc := ⟨.hbm, 74, rfl⟩
abbrev main_while0b_cst_17 : Ref sig .tc := ⟨.hbm, 75, rfl⟩
abbrev main_while0b_v30 : Ref sig .tc := ⟨.hbm, 76, rfl⟩
abbrev main_while0b_v31 : Ref sig .tc := ⟨.hbm, 77, rfl⟩
abbrev main_while0b_v32 : Ref sig .tc := ⟨.hbm, 78, rfl⟩
abbrev main_while0b_v33 : Ref sig .tc := ⟨.hbm, 79, rfl⟩
abbrev main_while0b_cst_18 : Ref sig .tc := ⟨.hbm, 80, rfl⟩
abbrev main_while0b_v34 : Ref sig .tc := ⟨.hbm, 81, rfl⟩
abbrev main_while0b_v35 : Ref sig .tc := ⟨.hbm, 82, rfl⟩
abbrev main_while0b_v36 : Ref sig .tc := ⟨.hbm, 83, rfl⟩
abbrev main_while0b_v37 : Ref sig .tc := ⟨.hbm, 84, rfl⟩
abbrev main_while0b_v38 : Ref sig .tc := ⟨.hbm, 85, rfl⟩
abbrev main_while0b_cst_19 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_call7_v0 : Ref sig .tc := ⟨.hbm, 92, rfl⟩
abbrev main_while0b_call7_cst : Ref sig .tc := ⟨.hbm, 93, rfl⟩
abbrev main_while0b_call7_c : Ref sig .tc := ⟨.hbm, 94, rfl⟩
abbrev main_while0b_call7_v1_0 : Ref sig .tc := ⟨.hbm, 95, rfl⟩
abbrev main_while0b_v44 : Ref sig .tc := ⟨.hbm, 96, rfl⟩
abbrev main_while0b_call8_c : Ref sig .tc := ⟨.hbm, 97, rfl⟩
abbrev main_while0b_call8_v0 : Ref sig .tc := ⟨.hbm, 98, rfl⟩
abbrev main_while0b_call8_v1 : Ref sig .tc := ⟨.hbm, 99, rfl⟩
abbrev main_while0b_call8_c_0 : Ref sig .tc := ⟨.hbm, 100, rfl⟩
abbrev main_while0b_call8_v2 : Ref sig .tc := ⟨.hbm, 101, rfl⟩
abbrev main_while0b_call8_v3 : Ref sig .tc := ⟨.hbm, 102, rfl⟩
abbrev main_while0b_call8_v4 : Ref sig .tc := ⟨.hbm, 103, rfl⟩
abbrev main_while0b_call8_v5 : Ref sig .tc := ⟨.hbm, 104, rfl⟩
abbrev main_while0b_call8_c_1 : Ref sig .tc := ⟨.hbm, 105, rfl⟩
abbrev main_while0b_call8_c_2 : Ref sig .tc := ⟨.hbm, 106, rfl⟩
abbrev main_while0b_call8_v6 : Ref sig .tc := ⟨.hbm, 107, rfl⟩
abbrev main_while0b_call8_v7 : Ref sig .tc := ⟨.hbm, 108, rfl⟩
abbrev main_while0b_call8_v8 : Ref sig .tc := ⟨.hbm, 109, rfl⟩
abbrev main_while0b_call8_v9 : Ref sig .tc := ⟨.hbm, 110, rfl⟩
abbrev main_while0b_call8_v10 : Ref sig .tc := ⟨.hbm, 111, rfl⟩
abbrev main_while0b_call8_v11 : Ref sig .tc := ⟨.hbm, 112, rfl⟩
abbrev main_while0b_call8_c_3 : Ref sig .tc := ⟨.hbm, 113, rfl⟩
abbrev main_while0b_call8_v12 : Ref sig .tc := ⟨.hbm, 114, rfl⟩
abbrev main_while0b_call8_v13 : Ref sig .tc := ⟨.hbm, 115, rfl⟩
abbrev main_while0b_call8_v14 : Ref sig .tc := ⟨.hbm, 116, rfl⟩
abbrev main_while0b_call8_cst : Ref sig .tc := ⟨.hbm, 117, rfl⟩
abbrev main_while0b_call8_v15 : Ref sig .tc := ⟨.hbm, 118, rfl⟩
abbrev main_while0b_v45 : Ref sig .tc := ⟨.hbm, 119, rfl⟩
abbrev main_while0b_v46 : Ref sig .tc := ⟨.hbm, 120, rfl⟩
abbrev main_while0b_v47 : Ref sig .tc := ⟨.hbm, 121, rfl⟩
abbrev main_while0b_v48 : Ref sig .tc := ⟨.hbm, 122, rfl⟩
abbrev main_while0b_v49 : Ref sig .tc := ⟨.hbm, 123, rfl⟩
abbrev main_while0b_v50 : Ref sig .tc := ⟨.hbm, 124, rfl⟩
abbrev main_while0b_cst_20 : Ref sig .tc := ⟨.hbm, 125, rfl⟩
abbrev main_while0b_v51 : Ref sig .tc := ⟨.hbm, 126, rfl⟩
abbrev main_while0b_cst_21 : Ref sig .tc := ⟨.hbm, 127, rfl⟩
abbrev main_while0b_v52 : Ref sig .tc := ⟨.hbm, 128, rfl⟩
abbrev main_while0b_v53 : Ref sig .tc := ⟨.hbm, 129, rfl⟩
abbrev main_while0b_v54 : Ref sig .tc := ⟨.hbm, 130, rfl⟩
abbrev main_while0b_v55 : Ref sig .tc := ⟨.hbm, 131, rfl⟩
abbrev main_while0b_cst_22 : Ref sig .tc := ⟨.hbm, 132, rfl⟩
abbrev main_while0b_v56 : Ref sig .tc := ⟨.hbm, 133, rfl⟩
abbrev main_while0b_cst_23 : Ref sig .tc := ⟨.hbm, 134, rfl⟩
abbrev main_while0b_v57 : Ref sig .tc := ⟨.hbm, 135, rfl⟩
abbrev main_while0b_v58 : Ref sig .tc := ⟨.hbm, 136, rfl⟩
abbrev main_while0b_v59 : Ref sig .tc := ⟨.hbm, 137, rfl⟩
abbrev main_while0b_v60 : Ref sig .tc := ⟨.hbm, 138, rfl⟩
abbrev main_while0b_v61 : Ref sig .tc := ⟨.hbm, 139, rfl⟩
abbrev main_while0b_v62 : Ref sig .tc := ⟨.hbm, 140, rfl⟩
abbrev main_while0b_v63 : Ref sig .tc := ⟨.hbm, 141, rfl⟩
abbrev main_while0b_v64 : Ref sig .tc := ⟨.hbm, 142, rfl⟩
abbrev main_while0b_v65 : Ref sig .tc := ⟨.hbm, 143, rfl⟩
abbrev main_while0b_v66 : Ref sig .tc := ⟨.hbm, 144, rfl⟩
abbrev main_while0b_v67 : Ref sig .tc := ⟨.hbm, 145, rfl⟩
abbrev main_while0b_cst_24 : Ref sig .tc := ⟨.hbm, 146, rfl⟩
abbrev main_while0b_v68 : Ref sig .tc := ⟨.hbm, 147, rfl⟩
abbrev main_while0b_cst_25 : Ref sig .tc := ⟨.hbm, 148, rfl⟩
abbrev main_while0b_v69 : Ref sig .tc := ⟨.hbm, 149, rfl⟩
abbrev main_while0b_v70 : Ref sig .tc := ⟨.hbm, 150, rfl⟩
abbrev main_while0b_cst_26 : Ref sig .tc := ⟨.hbm, 151, rfl⟩
abbrev main_while0b_v71 : Ref sig .tc := ⟨.hbm, 152, rfl⟩
abbrev main_while0b_cst_27 : Ref sig .tc := ⟨.hbm, 153, rfl⟩
abbrev main_while0b_v72 : Ref sig .tc := ⟨.hbm, 154, rfl⟩
abbrev main_while0b_v73 : Ref sig .tc := ⟨.hbm, 155, rfl⟩
abbrev main_while0b_call9_v0 : Ref sig .tc := ⟨.hbm, 156, rfl⟩
abbrev main_while0b_call9_c : Ref sig .tc := ⟨.hbm, 157, rfl⟩
abbrev main_while0b_call9_c_0 : Ref sig .tc := ⟨.hbm, 158, rfl⟩
abbrev main_while0b_v74 : Ref sig .tc := ⟨.hbm, 159, rfl⟩
abbrev main_while0b_call10_v0 : Ref sig .tc := ⟨.hbm, 160, rfl⟩
abbrev main_while0b_call10_c : Ref sig .tc := ⟨.hbm, 161, rfl⟩
abbrev main_while0b_call10_c_0 : Ref sig .tc := ⟨.hbm, 162, rfl⟩
abbrev main_while0b_call10_c_1 : Ref sig .tc := ⟨.hbm, 163, rfl⟩
abbrev main_while0b_v75 : Ref sig .tc := ⟨.hbm, 164, rfl⟩
abbrev main_while0b_c_28 : Ref sig .tc := ⟨.hbm, 165, rfl⟩
abbrev main_while0b_v76 : Ref sig .tc := ⟨.hbm, 166, rfl⟩
abbrev main_v4 : Ref sig .tc := ⟨.hbm, 167, rfl⟩
abbrev main_v5 : Ref sig .tc := ⟨.hbm, 168, rfl⟩
abbrev main_v6 : Ref sig .tc := ⟨.hbm, 169, rfl⟩

abbrev nD : Nat := 1
abbrev τ : Topo := Topo.v7x

variable {F : FTy → Type} [FloatOps F]

abbrev main_while0_count : Scf.Loop 32 := ⟨0#32, 9#32, 1#32⟩
-- ==== Proof.Chain.lean ====
/-
  THE KERNEL BODY AS NINE LEVELS. The printed body spells its nine levels out one after the other; here one level is a
  function of the level's number and the residual it enters with, and what the body stores is that function iterated. Each
  equation is by definitional unfolding, at any float instance.
-/
module

public import proofs.«01_k».proof.Proof.Gen.KernelIdeal.Frame

@[expose] public section

noncomputable section

namespace Cert.Rvq

open Idealize.ShloMosaic Cert.KernelIdeal Cert.KernelIdeal.Gen

variable {F : FTy → Type} [FloatOps F]

/-- The seven input blocks of one grid point: the columns, the five parameter arrays (the codebooks regrouped), the
    scores' table. -/
structure Blocks (F : FTy → Type) [FloatOps F] where
  x0 : Vec F S1x512x2048 .f32
  x1 : Vec F S9x8x512 .f32
  x2 : Vec F S9x8 .f32
  x3 : Vec F S9x512x8 .f32
  x4 : Vec F S9x512 .f32
  x5 : Vec F S9x128x64 .f32
  x6 : Vec F S9x1024x9 .f32

/-- Level `i`'s slice of each parameter array. -/
abbrev rWi (i : Fin 9) : Rect S9x8x512 := Rect.unit (s := S9x8x512) ![i.val, 0, 0] S1x8x512.size (by
  revert i; decide)
abbrev rBi (i : Fin 9) : Rect S9x8 := Rect.unit (s := S9x8) ![i.val, 0] S1x8.size (by revert i; decide)
abbrev rWo (i : Fin 9) : Rect S9x512x8 := Rect.unit (s := S9x512x8) ![i.val, 0, 0] S1x512x8.size (by revert i; decide)
abbrev rBo (i : Fin 9) : Rect S9x512 := Rect.unit (s := S9x512) ![i.val, 0] S1x512.size (by revert i; decide)
abbrev rCb (i : Fin 9) : Rect S9x128x64 := Rect.unit (s := S9x128x64) ![i.val, 0, 0] S1x128x64.size (by revert i; decide)
abbrev rAug (i : Fin 9) : Rect S9x1024x9 := Rect.unit (s := S9x1024x9) ![i.val, 0, 0] S1x1024x9.size (by revert i; decide)

variable (X : Blocks F)

/-- The block's projected columns at level `i`, from the residual. -/
def kZe (i : Fin 9) (v : FVec F S512x2048 .f32) : FVec F S8x2048 .f32 :=
  k1_pay12 v (k1_pay8 (View.ld X.x1 (rWi i))) (k1_pay9 (View.ld X.x2 (rBi i)))

/-- Their codes. -/
def kIdx (i : Fin 9) (v : FVec F S512x2048 .f32) : IVec S2048 32 :=
  k1_pay13 v k1_pay5 k1_pay7 (k1_pay8 (View.ld X.x1 (rWi i))) (k1_pay9 (View.ld X.x2 (rBi i))) (View.ld X.x6 (rAug i))

/-- The codes' rows by the masked one-hot product. -/
def kCand (i : Fin 9) (v : FVec F S512x2048 .f32) : FVec F S64x2048 .f32 :=
  k1_pay14 v k1_pay5 (iota .tc S128x2048 32 [0] iota_S128x2048_d0_w32) k1_pay6 k1_pay7 (k1_pay8 (View.ld X.x1 (rWi i)))
    (k1_pay9 (View.ld X.x2 (rBi i))) (View.ld X.x5 (rCb i)) (View.ld X.x6 (rAug i))

/-- The block's squared error at level `i`. -/
def kErr (i : Fin 9) (v : FVec F S512x2048 .f32) : F .f32 :=
  have d : FVec F S8x2048 .f32 := subf (kZe X i v) (k1_pay15 (kCand X i v))
  extractAt ![0, 0, 0] (shapeCast S1x1x1 (multiReduction .add [1, 2] S1 (shapeCast S1x8x2048 (mulf d d) shapeCasts_S8x2048_S1x8x2048)
    0x00000000#32 reduces_S1x8x2048_S1 (.inl rfl) rfl) shapeCasts_S1_S1x1x1) inpos_S1x1x1_p0_0_0

/-- The residual after level `i`. -/
def kNext (i : Fin 9) (v : FVec F S512x2048 .f32) : FVec F S512x2048 .f32 :=
  k1_pay17 v k1_pay7 (k1_pay10 (View.ld X.x3 (rWo i))) (k1_pay11 (View.ld X.x4 (rBo i))) (kZe X i v) (kCand X i v)

/-- The residual before level `i`. -/
def kRes : ℕ → FVec F S512x2048 .f32
  | 0 => k1_pay4 (View.ld X.x0 r1_0)
  | i + 1 => kNext X (Fin.ofNat 9 i) (kRes i)

/-- The loss before level `i`. -/
def kLoss : ℕ → F .f32
  | 0 => Scalar.ofBits .f32 0x00000000#32
  | i + 1 => Scalar.addf (kLoss i) (kErr X (Fin.ofNat 9 i) (kRes X i))

/-- What a grid point stores of `z_q`: the columns less the last residual. -/
theorem out7_eq : out1_7 X.x0 X.x1 X.x2 X.x3 X.x4 X.x5 X.x6 = View.canon [⟨r1_0, k1_pay2 (kRes X 9) (View.ld X.x0 r1_0)⟩] := rfl

/-- What it stores of the codes: level `k`'s in row `k`. -/
theorem out8_eq : out1_8 X.x0 X.x1 X.x2 X.x3 X.x4 X.x5 X.x6 = View.canon [⟨r1_71, k1_pay18 (kIdx X 8 (kRes X 8))⟩, ⟨r1_63, k1_pay18 (kIdx X 7 (kRes X 7))⟩, ⟨r1_55, k1_pay18 (kIdx X 6 (kRes X 6))⟩, ⟨r1_47, k1_pay18 (kIdx X 5 (kRes X 5))⟩, ⟨r1_39, k1_pay18 (kIdx X 4 (kRes X 4))⟩, ⟨r1_31, k1_pay18 (kIdx X 3 (kRes X 3))⟩, ⟨r1_23, k1_pay18 (kIdx X 2 (kRes X 2))⟩, ⟨r1_15, k1_pay18 (kIdx X 1 (kRes X 1))⟩, ⟨r1_7, k1_pay18 (kIdx X 0 (kRes X 0))⟩] := rfl

/-- What it stores of the latents: level `k`'s in rows `8·k` to `8·k + 7`. -/
theorem out9_eq : out1_9 X.x0 X.x1 X.x2 X.x3 X.x4 X.x5 X.x6 = View.canon [⟨r1_72, k1_pay19 (kZe X 8 (kRes X 8))⟩, ⟨r1_64, k1_pay19 (kZe X 7 (kRes X 7))⟩, ⟨r1_56, k1_pay19 (kZe X 6 (kRes X 6))⟩, ⟨r1_48, k1_pay19 (kZe X 5 (kRes X 5))⟩, ⟨r1_40, k1_pay19 (kZe X 4 (kRes X 4))⟩, ⟨r1_32, k1_pay19 (kZe X 3 (kRes X 3))⟩, ⟨r1_24, k1_pay19 (kZe X 2 (kRes X 2))⟩, ⟨r1_16, k1_pay19 (kZe X 1 (kRes X 1))⟩, ⟨r1_8, k1_pay19 (kZe X 0 (kRes X 0))⟩] := rfl

/-- What it stores of the loss: the nine levels' sum, in all 128 lanes. -/
theorem out10_eq : out1_10 X.x0 X.x1 X.x2 X.x3 X.x4 X.x5 X.x6 = View.canon [⟨r1_73, k1_pay3 (kLoss X 9)⟩] := rfl

end Cert.Rvq
-- ==== Proof.Spec.lean ====
/-
  The PROBLEM over the real numbers: a residual vector quantizer of one column (one batch row and time step), level by
  level. Nothing here mentions a program; both programs are shown to compute these functions.
-/
module

public import Idealize.ShloMosaic.PureOps.Ideal

@[expose] public section

noncomputable section

namespace Cert.Rvq

open scoped BigOperators

/-- The parameters of one level: the projection into the code space, the projection out of it, and the codebook. -/
structure Lvl where
  Wi : Fin 8 → Fin 512 → ℝ
  bi : Fin 8 → ℝ
  Wo : Fin 512 → Fin 8 → ℝ
  bo : Fin 512 → ℝ
  cb : Fin 1024 → Fin 8 → ℝ

/-- The binary32 number nearest `1e-12`: the floor under a norm. -/
def eps : ℝ := 9223372 / 2 ^ 63

theorem eps_pos : 0 < eps := by unfold eps; positivity

/-- The Euclidean length, kept away from zero. -/
def len (v : Fin 8 → ℝ) : ℝ := max (Real.sqrt (∑ c, v c * v c)) eps

theorem len_pos (v : Fin 8 → ℝ) : 0 < len v := lt_of_lt_of_le eps_pos (le_max_right _ _)

/-- The direction of a vector. -/
def dir (v : Fin 8 → ℝ) (c : Fin 8) : ℝ := v c / len v

/-- `k` is the first index at which `s` is greatest. -/
def IsFirstMax (s : Fin 1024 → ℝ) (k : Fin 1024) : Prop := (∀ j, s j ≤ s k) ∧ ∀ j, j < k → s j < s k

/-- There is such an index. -/
theorem exists_firstMax (s : Fin 1024 → ℝ) : ∃ k, IsFirstMax s k := by
  classical
  obtain ⟨m, -, hm⟩ := Finset.exists_max_image Finset.univ s ⟨0, Finset.mem_univ _⟩
  have hne : (Finset.univ.filter fun k => s k = s m).Nonempty := ⟨m, by simp⟩
  refine ⟨(Finset.univ.filter fun k => s k = s m).min' hne, ?_, ?_⟩
  · have h := Finset.min'_mem _ hne
    rw [Finset.mem_filter] at h
    intro j
    rw [h.2]
    exact hm j (Finset.mem_univ _)
  · intro j hj
    have h := Finset.min'_mem _ hne
    rw [Finset.mem_filter] at h
    rw [h.2]
    refine lt_of_le_of_ne (hm j (Finset.mem_univ _)) fun he => ?_
    exact absurd hj (not_lt.mpr (Finset.min'_le _ j (by simp [he])))

/-- There is only one. -/
theorem IsFirstMax.unique {s : Fin 1024 → ℝ} {k l : Fin 1024} (hk : IsFirstMax s k) (hl : IsFirstMax s l) : k = l := by
  rcases lt_trichotomy k l with h | h | h
  · exact absurd (hl.2 k h) (not_lt.mpr (hk.1 l))
  · exact h
  · exact absurd (hk.2 l h) (not_lt.mpr (hl.1 k))

/-- The first index at which `s` is greatest. -/
def firstMax (s : Fin 1024 → ℝ) : Fin 1024 := (exists_firstMax s).choose

theorem firstMax_spec (s : Fin 1024 → ℝ) : IsFirstMax s (firstMax s) := (exists_firstMax s).choose_spec

/-- A number taken from every value moves no first maximum. -/
theorem firstMax_sub (s : Fin 1024 → ℝ) (a : ℝ) : firstMax (fun k => s k - a) = firstMax s :=
  (firstMax_spec _).unique ⟨fun j => by have := (firstMax_spec s).1 j; linarith,
    fun j hj => by have := (firstMax_spec s).2 j hj; linarith⟩

/-- A column's residual projected into the code space. -/
def zE (L : Lvl) (r : Fin 512 → ℝ) (c : Fin 8) : ℝ := ∑ d, L.Wi c d * r d + L.bi c

/-- How well code `k` agrees with the direction `u`: twice the inner product less the code direction's square. -/
def score (L : Lvl) (u : Fin 8 → ℝ) (k : Fin 1024) : ℝ :=
  ∑ c, 2 * dir (L.cb k) c * u c - ∑ c, dir (L.cb k) c * dir (L.cb k) c

/-- The code chosen for a column. -/
def code (L : Lvl) (r : Fin 512 → ℝ) : Fin 1024 := firstMax (score L (dir (zE L r)))

/-- The chosen code's vector. -/
def zQ (L : Lvl) (r : Fin 512 → ℝ) : Fin 8 → ℝ := L.cb (code L r)

/-- What a level takes from the residual. -/
def out (L : Lvl) (r : Fin 512 → ℝ) (d : Fin 512) : ℝ := ∑ c, L.Wo d c * zQ L r c + L.bo d

/-- The residual after a level. -/
def next (L : Lvl) (r : Fin 512 → ℝ) (d : Fin 512) : ℝ := r d - out L r d

/-- A column's squared quantization error at a level. -/
def err (L : Lvl) (r : Fin 512 → ℝ) : ℝ := ∑ c, (zE L r c - zQ L r c) * (zE L r c - zQ L r c)

/-- The residual before level `k`. -/
def res (P : ℕ → Lvl) (z : Fin 512 → ℝ) : ℕ → Fin 512 → ℝ
  | 0 => z
  | k + 1 => next (P k) (res P z k)

/-- The nine levels' parameters as a sequence. -/
def seq (P : Fin 9 → Lvl) (k : ℕ) : Lvl := P (Fin.ofNat 9 k)

theorem seq_val (P : Fin 9 → Lvl) (i : Fin 9) : seq P i.val = P i := by
  unfold seq
  congr 1
  exact Fin.ext (Nat.mod_eq_of_lt i.isLt)

/-- The code of column `t` of batch `b` at level `i`, as a word. -/
def codeAt (P : Fin 9 → Lvl) (z : Fin 16 → Fin 4096 → Fin 512 → ℝ) (b : Fin 16) (i : Fin 9) (t : Fin 4096) : BitVec 32 :=
  BitVec.ofNat 32 (code (P i) (res (seq P) (z b t) i.val)).val

/-- Row `8·i + c` of the latents is coordinate `c` of level `i`. -/
def lev (k : Fin 72) : Fin 9 := ⟨k.val / 8, by omega⟩
def coord (k : Fin 72) : Fin 8 := ⟨k.val % 8, by omega⟩

/-- The nearest-code distance as it is usually written, negated: the direction's own square is a constant of the column. -/
theorem neg_dist_eq (L : Lvl) (u : Fin 8 → ℝ) (k : Fin 1024) :
    -(∑ c, u c * u c - 2 * ∑ c, u c * dir (L.cb k) c + ∑ c, dir (L.cb k) c * dir (L.cb k) c)
      = score L u k - ∑ c, u c * u c := by
  unfold score
  rw [Finset.mul_sum]
  have : ∑ c, 2 * (u c * dir (L.cb k) c) = ∑ c, 2 * dir (L.cb k) c * u c := Finset.sum_congr rfl fun c _ => by ring
  rw [this]; ring

end Cert.Rvq
-- ==== Proof.Reals.lean ====
/-
  EXTENDED REALS that are REAL: at the ideal instance a float is an extended real; on finite arguments every operation the
  two programs apply gives a finite number again, and here is what number. Also the programs' constants.
-/
module

public import proofs.«01_k».proof.Proof.Spec
public import Idealize.ShloMosaic.Lib.Pointwise

@[expose] public section

noncomputable section

namespace Cert.Rvq

open Idealize.ShloMosaic
open scoped BigOperators

/-- A finite sum of real numbers is real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) y := EReal.coe_strictMono.monotone.map_max

/-- The constants: the floor under a norm, 2, 1024, the two means' divisors, and the two infinities. -/
theorem ofBits_eps : Ideal.ofBits .f32 0x2B8CBCCC#32 = (eps : EReal) := by
  simp [Ideal.ofBits, Ideal.ieee, eps, -EReal.coe_mul]; norm_num

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

theorem ofBits_32768 : Ideal.ofBits .f32 0x47000000#32 = ((32768 : ℝ) : EReal) := by
  simp [Ideal.ofBits, Ideal.ieee, -EReal.coe_mul]; norm_num

theorem ofBits_524288 : Ideal.ofBits .f32 0x49000000#32 = ((524288 : ℝ) : EReal) := by
  simp [Ideal.ofBits, Ideal.ieee, -EReal.coe_mul]; norm_num

theorem ofBits_top : Ideal.ofBits .f32 0x7F800000#32 = ⊤ := by simp [Ideal.ofBits, Ideal.ieee]

theorem ofBits_bot : Ideal.ofBits .f32 0xFF800000#32 = ⊥ := by simp [Ideal.ofBits, Ideal.ieee]

/-- A quotient of real numbers. -/
theorem div_real (x : ℝ) {y : ℝ} (h : y ≠ 0) : Ideal.div (x : EReal) (y : EReal) = ((x / y : ℝ) : EReal) := by
  rw [Ideal.div_coe h, ← EReal.coe_mul]; congr 1; ring

/-- The square root of a sum of squares. -/
theorem sqrt_sq (v : Fin 8 → ℝ) : Ideal.sqrt ((∑ c, v c * v c : ℝ) : EReal) = ((Real.sqrt (∑ c, v c * v c) : ℝ) : EReal) := by
  rw [Ideal.sqrt_coe, if_neg (not_lt.mpr (Finset.sum_nonneg fun c _ => mul_self_nonneg _))]

/-- A vector divided by its length, the length floored: the direction. -/
theorem div_len (v : Fin 8 → ℝ) (c : Fin 8) :
    Ideal.div (v c : EReal) (max (Ideal.sqrt (∑ x, (v x : EReal) * (v x : EReal))) (eps : EReal)) = ((dir v c : ℝ) : EReal) := by
  simp only [← EReal.coe_mul, ← coe_sum]
  rw [sqrt_sq, ← coe_max]
  exact div_real _ (len_pos v).ne'

/-- The greatest of the scores, by a fold of maxima from `-∞`. -/
theorem fold_max (s : Fin 1024 → ℝ) : Finset.fold max (⊥ : EReal) (fun k => (s k : EReal)) Finset.univ = (s (firstMax s) : EReal) := by
  apply le_antisymm
  · exact (Finset.fold_max_le _).2 ⟨bot_le, fun k _ => EReal.coe_le_coe_iff.2 ((firstMax_spec s).1 k)⟩
  · exact (Finset.le_fold_max _).2 (.inr ⟨_, Finset.mem_univ _, le_rfl⟩)

/-- The least index at which the score is the greatest, by a fold of minima from `+∞`: the first maximum. -/
theorem fold_min (s : Fin 1024 → ℝ) :
    Finset.fold min (⊤ : EReal) (fun k => if (s k : EReal) = (s (firstMax s) : EReal) then ((k.val : ℝ) : EReal) else ((1024 : ℝ) : EReal)) Finset.univ
      = (((firstMax s).val : ℝ) : EReal) := by
  apply le_antisymm
  · exact (Finset.fold_min_le _).2 (.inr ⟨firstMax s, Finset.mem_univ _, by simp⟩)
  · refine (Finset.le_fold_min _).2 ⟨le_top, fun k _ => ?_⟩
    split_ifs with h
    · rw [EReal.coe_eq_coe_iff] at h
      rw [EReal.coe_le_coe_iff]
      by_contra hlt
      exact absurd ((firstMax_spec s).2 k (Fin.lt_def.2 (by exact_mod_cast not_le.1 hlt))) (by rw [h]; exact lt_irrefl _)
    · rw [EReal.coe_le_coe_iff]
      exact_mod_cast (firstMax s).isLt.le

/-- A code as a float, converted to an integer. -/
theorem fptosi_code (k : Fin 1024) : FloatOps.fptosi (F := Ideal) (φ := .f32) 32 (((k.val : ℝ) : EReal)) = BitVec.ofNat 32 k.val := by
  show Ideal.fptosi 32 _ = _
  rw [Ideal.fptosi, Ideal.toIntClamped_coe]
  have hk := k.isLt
  rw [if_pos (by positivity), Int.floor_natCast]
  rw [min_eq_right (by push_cast; omega), max_eq_right (by push_cast; omega)]
  exact BitVec.ofInt_natCast 32 k.val

end Cert.Rvq
-- ==== Proof.Level.lean ====
/-
  ONE LEVEL of the kernel, read at an index. The kernel's nine levels are the same computation on nine slices of the
  parameters; this module reads that computation once, at the first level's payloads, on finite operands: `t` is one of the
  block's 2048 columns, `r t` that column's residual and `L` the level's parameters as real numbers.
-/
module

public import proofs.«01_k».proof.Proof.Gen.KernelIdeal.Skeleton
public import proofs.«01_k».proof.Proof.Reals

@[expose] public section

noncomputable section

namespace Cert.Rvq

open Idealize.ShloMosaic Cert.KernelIdeal Cert.KernelIdeal.Gen
open scoped BigOperators

/-- A small number's word, read as a signed integer. -/
theorem toInt_ofNat {n : ℕ} (h : n < 2 ^ 31) : (BitVec.ofNat 32 n).toInt = n := by
  rw [BitVec.toInt_eq_toNat_cond, BitVec.toNat_ofNat, Nat.mod_eq_of_lt (by omega), if_pos (by omega)]

/-- The code iota as floats. -/
theorem pay5_apply (k : Fin 1024) (t : Fin 2048) : k1_pay5 (F := Ideal) (ix2 k t) = ((k.val : ℝ) : EReal) := by
  pointwise [k1_pay5]
  show (((BitVec.ofNat 32 k.val).toInt : ℝ) : EReal) = _
  rw [toInt_ofNat (by have := k.isLt; omega)]
  simp

/-- The row of ones. -/
theorem pay7_apply (a : Fin 1) (t : Fin 2048) : k1_pay7 (F := Ideal) (ix2 a t) = 1 := by
  pointwise [k1_pay7]

/-- Row `h` of the 64-row iota divided by 8. -/
theorem pay6_apply (h : Fin 64) (t : Fin 2048) : k1_pay6 (ix2 h t) = BitVec.ofNat 32 (h.val / 8) := by
  pointwise [k1_pay6]
  clear t
  revert h
  decide

/-- A code's high part: the word shifted right by seven. -/
theorem shr7 {n : ℕ} (h : n < 1024) : IntOp.shrsi .vector (BitVec.ofNat 32 n) 7#32 = BitVec.ofNat 32 (n / 128) := by
  have e : IntOp.shrsi .vector (BitVec.ofNat 32 n) 7#32 = (BitVec.ofNat 32 n).sshiftRight 7 := rfl
  rw [e]
  apply BitVec.eq_of_toInt_eq
  rw [BitVec.toInt_sshiftRight, toInt_ofNat (by omega), toInt_ofNat (by omega), Int.shiftRight_eq_div_pow]
  norm_num

/-- A code's low part: the word's last seven bits. -/
theorem and127 {n : ℕ} (h : n < 1024) : IntOp.andi (BitVec.ofNat 32 n) 127#32 = BitVec.ofNat 32 (n % 128) := by
  apply BitVec.eq_of_toNat_eq
  show (BitVec.ofNat 32 n &&& 127#32).toNat = _
  rw [BitVec.toNat_and, BitVec.toNat_ofNat, BitVec.toNat_ofNat, BitVec.toNat_ofNat, Nat.mod_eq_of_lt (by omega : n < 2 ^ 32),
    Nat.mod_eq_of_lt (by omega : n % 128 < 2 ^ 32)]
  exact Nat.and_two_pow_sub_one_eq_mod n 7

/-- Two small numbers' words are equal exactly when the numbers are. -/
theorem cmpi_eq_small {a b : ℕ} (ha : a < 1024) (hb : b < 1024) :
    IntOp.cmpi .eq (BitVec.ofNat 32 a) (BitVec.ofNat 32 b) = if a = b then 1#1 else 0#1 := by
  have e : (BitVec.ofNat 32 a == BitVec.ofNat 32 b) = decide (a = b) := by
    rw [Bool.eq_iff_iff, beq_iff_eq, decide_eq_true_iff]
    refine ⟨fun h => ?_, fun h => by rw [h]⟩
    have := congrArg BitVec.toInt h
    rw [toInt_ofNat (by omega), toInt_ofNat (by omega)] at this
    exact_mod_cast this
  show BitVec.ofBool (BitVec.ofNat 32 a == BitVec.ofNat 32 b) = _
  rw [e]
  by_cases h : a = b <;> simp [h]

/-- A one-hot entry. -/
theorem hot {a b : ℕ} (ha : a < 1024) (hb : b < 1024) :
    FloatOps.sitofp (F := Ideal) .f32 (BitVec.setWidth 32 (IntOp.cmpi .eq (BitVec.ofNat 32 a) (BitVec.ofNat 32 b)))
      = ((if a = b then 1 else 0 : ℝ) : EReal) := by
  rw [cmpi_eq_small ha hb]
  show (((BitVec.setWidth 32 (if a = b then 1#1 else 0#1)).toInt : ℝ) : EReal) = _
  by_cases h : a = b
  · rw [if_pos h, if_pos h, show (BitVec.setWidth 32 1#1).toInt = 1 from by decide]; norm_num
  · rw [if_neg h, if_neg h, show (BitVec.setWidth 32 0#1).toInt = 0 from by decide]; norm_num

/-- A selection by equality of two small numbers. -/
theorem select_small {α : Type} {a b : ℕ} (ha : a < 1024) (hb : b < 1024) (x y : α) :
    Scalar.select (IntOp.cmpi .eq (BitVec.ofNat 32 a) (BitVec.ofNat 32 b)) x y = if a = b then x else y := by
  rw [cmpi_eq_small ha hb]
  by_cases h : a = b
  · rw [if_pos h, if_pos h]; rfl
  · rw [if_neg h, if_neg h]; rfl

/-- The two-step lookup finds the code's row: of all high parts and low parts only the code's own contribute. -/
theorem lookup (f : Fin 1024 → ℝ) (n : Fin 1024) :
    ∑ hi : Fin 8, (if hi.val = n.val / 128 then ∑ lo : Fin 128, f ⟨hi.val * 128 + lo.val, by omega⟩ * (if lo.val = n.val % 128 then 1 else 0) else 0)
      = f n := by
  have hn := n.isLt
  rw [Finset.sum_eq_single (⟨n.val / 128, by omega⟩ : Fin 8)]
  · rw [if_pos rfl, Finset.sum_eq_single (⟨n.val % 128, by omega⟩ : Fin 128)]
    · rw [if_pos rfl, mul_one]
      exact congrArg f (Fin.ext (by show n.val / 128 * 128 + n.val % 128 = n.val; omega))
    · intro lo _ h
      rw [if_neg fun e => h (Fin.ext e), mul_zero]
    · exact fun h => absurd (Finset.mem_univ _) h
  · intro hi _ h
    rw [if_neg fun e => h (Fin.ext e)]
  · exact fun h => absurd (Finset.mem_univ _) h

section level
variable {L : Lvl} {r : Fin 2048 → Fin 512 → ℝ}
  {v1 : FVec Ideal S512x2048 .f32} {w : FVec Ideal S8x512 .f32} {b : FVec Ideal S8 .f32}
  {v41 : Vec Ideal S1x1024x9 .f32} {v39 : Vec Ideal S1x128x64 .f32}

/-- The projection into the code space. -/
theorem ze_apply (h1 : ∀ d t, v1 (ix2 d t) = ((r t d : ℝ) : EReal)) (hw : ∀ c d, w (ix2 c d) = ((L.Wi c d : ℝ) : EReal))
    (hb : ∀ c, b (ix1 c) = ((L.bi c : ℝ) : EReal)) (c : Fin 8) (t : Fin 2048) :
    k1_pay12 v1 w b (ix2 c t) = ((zE L (r t) c : ℝ) : EReal) := by
  pointwise [k1_pay12]
  simp only [h1, hw, hb, ← EReal.coe_mul, ← coe_sum, ← EReal.coe_add]
  rfl

/-- The code: the first index at which the score is the greatest. -/
theorem idx_apply (h1 : ∀ d t, v1 (ix2 d t) = ((r t d : ℝ) : EReal)) (hw : ∀ c d, w (ix2 c d) = ((L.Wi c d : ℝ) : EReal))
    (hb : ∀ c, b (ix1 c) = ((L.bi c : ℝ) : EReal))
    (ha : ∀ k (c : Fin 8), v41 (ix3 0 k c.castSucc) = ((2 * dir (L.cb k) c : ℝ) : EReal))
    (hs : ∀ k, v41 (ix3 0 k 8) = ((-∑ c, dir (L.cb k) c * dir (L.cb k) c : ℝ) : EReal)) (t : Fin 2048) :
    k1_pay13 v1 k1_pay5 k1_pay7 w b v41 (ix1 t) = BitVec.ofNat 32 (code L (r t)).val := by
  pointwise [k1_pay13]
  have key : ∀ k : Fin 1024, (∑ c : Fin 8, v41 (ix3 0 k ⟨c.val, by omega⟩) * Ideal.div (k1_pay12 v1 w b (ix2 c t))
      (max (Ideal.sqrt (∑ x, k1_pay12 v1 w b (ix2 x t) * k1_pay12 v1 w b (ix2 x t))) (Ideal.ofBits FTy.f32 730643660#32)))
        + ∑ _ : Fin 1, v41 (ix3 0 k 8) * k1_pay7 (F := Ideal) (ix2 0 t) = ((score L (dir (zE L (r t))) k : ℝ) : EReal) := by
    intro k
    have e : ∀ c : Fin 8, v41 (ix3 0 k ⟨c.val, by omega⟩) = ((2 * dir (L.cb k) c : ℝ) : EReal) := fun c => ha k c
    simp only [e, hs, pay7_apply, mul_one, ze_apply h1 hw hb]
    rw [show (730643660#32 : BitVec 32) = 0x2B8CBCCC#32 from rfl, ofBits_eps]
    simp only [div_len]
    simp only [← EReal.coe_mul, ← coe_sum]
    simp only [Finset.univ_unique, Finset.sum_singleton, ← EReal.coe_add]
    rfl
  simp only [key, pay5_apply]
  rw [show (4286578688#32 : BitVec 32) = 0xFF800000#32 from rfl, ofBits_bot, show (2139095040#32 : BitVec 32) = 0x7F800000#32 from rfl,
    ofBits_top, show (1149239296#32 : BitVec 32) = 0x44800000#32 from rfl, ofBits_1024, fold_max]
  erw [fold_min]
  exact fptosi_code _

/-- The chosen code's vector. -/
theorem zq_apply (h1 : ∀ d t, v1 (ix2 d t) = ((r t d : ℝ) : EReal)) (hw : ∀ c d, w (ix2 c d) = ((L.Wi c d : ℝ) : EReal))
    (hb : ∀ c, b (ix1 c) = ((L.bi c : ℝ) : EReal))
    (ha : ∀ k (c : Fin 8), v41 (ix3 0 k c.castSucc) = ((2 * dir (L.cb k) c : ℝ) : EReal))
    (hs : ∀ k, v41 (ix3 0 k 8) = ((-∑ c, dir (L.cb k) c * dir (L.cb k) c : ℝ) : EReal))
    (h39 : ∀ (lo : Fin 128) (hi c : Fin 8), v39 (ix3 0 lo ⟨hi.val * 8 + c.val, by omega⟩)
      = ((L.cb ⟨hi.val * 128 + lo.val, by omega⟩ c : ℝ) : EReal)) (c : Fin 8) (t : Fin 2048) :
    k1_pay15 (k1_pay14 v1 k1_pay5 (iota .tc S128x2048 32 [0] iota_S128x2048_d0_w32) k1_pay6 k1_pay7 w b v39 v41) (ix2 c t)
      = ((zQ L (r t) c : ℝ) : EReal) := by
  pointwise [k1_pay15, k1_pay14]
  simp only [idx_apply h1 hw hb ha hs, pay6_apply]
  set n := code L (r t) with hn
  have hlt := n.isLt
  rw [shr7 hlt, and127 hlt]
  have e : ∀ hi : Fin 8, Scalar.select (IntOp.cmpi .eq (BitVec.ofNat 32 ((hi.val * 8 + c.val) / 8)) (BitVec.ofNat 32 (n.val / 128)))
      (∑ lo : Fin 128, (v39 (ix3 0 lo ⟨hi.val * 8 + c.val, by omega⟩) : EReal)
        * FloatOps.sitofp (F := Ideal) .f32 (BitVec.setWidth 32 (IntOp.cmpi .eq (BitVec.ofNat 32 lo.val) (BitVec.ofNat 32 (n.val % 128))))) 0
      = ((if hi.val = n.val / 128 then ∑ lo : Fin 128, L.cb ⟨hi.val * 128 + lo.val, by omega⟩ c * (if lo.val = n.val % 128 then 1 else 0) else 0 : ℝ) : EReal) := by
    intro hi
    rw [select_small (by omega) (by omega), show (hi.val * 8 + c.val) / 8 = hi.val by omega]
    by_cases h : hi.val = n.val / 128
    · rw [if_pos h, if_pos h, coe_sum]
      refine Finset.sum_congr rfl fun lo _ => ?_
      rw [h39, hot (by omega) (by omega), EReal.coe_mul]
    · rw [if_neg h, if_neg h]; rfl
  rw [Finset.sum_congr rfl fun hi _ => e hi, ← coe_sum, lookup (fun k => L.cb k c) n]
  rfl

/-- The level's squared error summed over the block: the first level adds it to zero. -/
theorem loss_apply {v46 : FVec Ideal S8x2048 .f32} {v79 : FVec Ideal S64x2048 .f32}
    (he : ∀ c t, v46 (ix2 c t) = ((zE L (r t) c : ℝ) : EReal)) (hq : ∀ c t, k1_pay15 v79 (ix2 c t) = ((zQ L (r t) c : ℝ) : EReal)) :
    k1_pay16 v46 v79 = ((∑ t, err L (r t) : ℝ) : EReal) := by
  pointwise [k1_pay16]
  simp only [he, hq, ← EReal.coe_mul, ← EReal.coe_sub, ← coe_sum]
  rw [Finset.sum_comm]
  rfl

/-- The residual after the level. -/
theorem next_apply {v36 : FVec Ideal S512x8 .f32} {v38 : FVec Ideal S512 .f32} {v46 : FVec Ideal S8x2048 .f32} {v79 : FVec Ideal S64x2048 .f32}
    (h1 : ∀ d t, v1 (ix2 d t) = ((r t d : ℝ) : EReal)) (ho : ∀ d c, v36 (ix2 d c) = ((L.Wo d c : ℝ) : EReal))
    (hb : ∀ d, v38 (ix1 d) = ((L.bo d : ℝ) : EReal))
    (he : ∀ c t, v46 (ix2 c t) = ((zE L (r t) c : ℝ) : EReal)) (hq : ∀ c t, k1_pay15 v79 (ix2 c t) = ((zQ L (r t) c : ℝ) : EReal))
    (d : Fin 512) (t : Fin 2048) :
    k1_pay17 v1 k1_pay7 v36 v38 v46 v79 (ix2 d t) = ((next L (r t) d : ℝ) : EReal) := by
  pointwise [k1_pay17]
  simp only [h1, ho, hb, he, hq, pay7_apply, mul_one, Finset.univ_unique, Finset.sum_singleton]
  simp only [← EReal.coe_mul, ← EReal.coe_sub, ← EReal.coe_add, ← coe_sum, add_sub_cancel]
  rfl

end level

end Cert.Rvq
-- ==== Proof.BlockValue.lean ====
/-
  WHAT ONE GRID POINT STORES, on finite blocks: the nine levels of Chain.lean read through Level.lean, by induction on the
  level, and the four output blocks at an index.
-/
module

public import proofs.«01_k».proof.Proof.Chain
public import proofs.«01_k».proof.Proof.Level

@[expose] public section

noncomputable section

namespace Cert.Rvq

open Idealize.ShloMosaic Cert.KernelIdeal Cert.KernelIdeal.Gen
open scoped BigOperators

/-- The blocks hold the columns `z` and the parameters `P`: the codebooks regrouped as (low part, 8·high part + coordinate),
    and in the last block twice the code directions beside minus their squares. -/
structure Holds (X : Blocks Ideal) (P : Fin 9 → Lvl) (z : Fin 2048 → Fin 512 → ℝ) : Prop where
  h0 : ∀ d t, X.x0 (ix3 0 d t) = ((z t d : ℝ) : EReal)
  h1 : ∀ i c d, X.x1 (ix3 i c d) = (((P i).Wi c d : ℝ) : EReal)
  h2 : ∀ i c, X.x2 (ix2 i c) = (((P i).bi c : ℝ) : EReal)
  h3 : ∀ i d c, X.x3 (ix3 i d c) = (((P i).Wo d c : ℝ) : EReal)
  h4 : ∀ i d, X.x4 (ix2 i d) = (((P i).bo d : ℝ) : EReal)
  h5 : ∀ i (lo : Fin 128) (hi c : Fin 8), X.x5 (ix3 i lo ⟨hi.val * 8 + c.val, by omega⟩) = (((P i).cb ⟨hi.val * 128 + lo.val, by omega⟩ c : ℝ) : EReal)
  h6 : ∀ i k (c : Fin 8), X.x6 (ix3 i k c.castSucc) = ((2 * dir ((P i).cb k) c : ℝ) : EReal)
  h6' : ∀ i k, X.x6 (ix3 i k 8) = ((-∑ c, dir ((P i).cb k) c * dir ((P i).cb k) c : ℝ) : EReal)

variable {X : Blocks Ideal} {P : Fin 9 → Lvl} {z : Fin 2048 → Fin 512 → ℝ}

section one
variable (H : Holds X P z) (i : Fin 9) {v : FVec Ideal S512x2048 .f32} {r : Fin 2048 → Fin 512 → ℝ}
  (hv : ∀ d t, v (ix2 d t) = ((r t d : ℝ) : EReal))
include H

/-- Level `i`'s loaded slices. -/
theorem Holds.wi (c : Fin 8) (d : Fin 512) : k1_pay8 (View.ld X.x1 (rWi i)) (ix2 c d) = (((P i).Wi c d : ℝ) : EReal) := by
  pointwise [k1_pay8]
  exact H.h1 i c d

theorem Holds.bi (c : Fin 8) : k1_pay9 (View.ld X.x2 (rBi i)) (ix1 c) = (((P i).bi c : ℝ) : EReal) := by
  pointwise [k1_pay9]
  exact H.h2 i c

theorem Holds.wo (d : Fin 512) (c : Fin 8) : k1_pay10 (View.ld X.x3 (rWo i)) (ix2 d c) = (((P i).Wo d c : ℝ) : EReal) := by
  pointwise [k1_pay10]
  exact H.h3 i d c

theorem Holds.bo (d : Fin 512) : k1_pay11 (View.ld X.x4 (rBo i)) (ix1 d) = (((P i).bo d : ℝ) : EReal) := by
  pointwise [k1_pay11]
  exact H.h4 i d

theorem Holds.cbr (lo : Fin 128) (h : Fin 64) : View.ld X.x5 (rCb i) (ix3 0 lo h) = X.x5 (ix3 i lo h) := by
  pointwise

theorem Holds.aug (k : Fin 1024) (c : Fin 9) : View.ld X.x6 (rAug i) (ix3 0 k c) = X.x6 (ix3 i k c) := by
  pointwise

include hv

theorem Holds.ze (c : Fin 8) (t : Fin 2048) : kZe X i v (ix2 c t) = ((zE (P i) (r t) c : ℝ) : EReal) :=
  ze_apply hv (H.wi i) (H.bi i) c t

theorem Holds.idx (t : Fin 2048) : kIdx X i v (ix1 t) = BitVec.ofNat 32 (code (P i) (r t)).val :=
  idx_apply hv (H.wi i) (H.bi i) (fun k c => (H.aug i k _).trans (H.h6 i k c)) (fun k => (H.aug i k _).trans (H.h6' i k)) t

theorem Holds.zq (c : Fin 8) (t : Fin 2048) : k1_pay15 (kCand X i v) (ix2 c t) = ((zQ (P i) (r t) c : ℝ) : EReal) :=
  zq_apply hv (H.wi i) (H.bi i) (fun k c => (H.aug i k _).trans (H.h6 i k c)) (fun k => (H.aug i k _).trans (H.h6' i k))
    (fun lo hi c => (H.cbr i lo _).trans (H.h5 i lo hi c)) c t

theorem Holds.next (d : Fin 512) (t : Fin 2048) : kNext X i v (ix2 d t) = ((next (P i) (r t) d : ℝ) : EReal) :=
  next_apply hv (H.wo i) (H.bo i) (H.ze i hv) (H.zq i hv) d t

theorem Holds.err : kErr X i v = ((∑ t, err (P i) (r t) : ℝ) : EReal) :=
  (zero_add _).symm.trans ((congrArg (· + kErr X i v) Ideal.ofBits_zero_f32.symm).trans (loss_apply (H.ze i hv) (H.zq i hv)))

end one

section all
variable (H : Holds X P z)
include H

/-- The residual before level `k`. -/
theorem Holds.res (k : ℕ) : ∀ d t, kRes X k (ix2 d t) = ((res (seq P) (z t) k d : ℝ) : EReal) := by
  induction k with
  | zero =>
    intro d t
    show k1_pay4 (View.ld X.x0 r1_0) (ix2 d t) = _
    pointwise [k1_pay4]
    exact H.h0 d t
  | succ k ih => exact H.next (Fin.ofNat 9 k) ih

/-- The loss before level `k`. -/
theorem Holds.loss (k : ℕ) : kLoss X k = ((∑ j ∈ Finset.range k, ∑ t, Rvq.err (seq P j) (Rvq.res (seq P) (z t) j) : ℝ) : EReal) := by
  induction k with
  | zero =>
    show Ideal.ofBits .f32 0x00000000#32 = _
    rw [Ideal.ofBits_zero_f32]; simp
  | succ k ih =>
    show kLoss X k + kErr X (Fin.ofNat 9 k) (kRes X k) = _
    rw [ih, H.err (Fin.ofNat 9 k) (H.res k), Finset.sum_range_succ, EReal.coe_add]
    rfl

/-- The stored `z_q`. -/
theorem Holds.out7 (d : Fin 512) (t : Fin 2048) : out1_7 X.x0 X.x1 X.x2 X.x3 X.x4 X.x5 X.x6 (ix3 0 d t)
    = ((z t d - Rvq.res (seq P) (z t) 9 d : ℝ) : EReal) := by
  rw [out7_eq, View.canon_unit_zero (S := S1x512x2048) (by decide)]
  pointwise [k1_pay2]
  rw [H.res 9, show X.x0 (ix3 0 d t) = _ from H.h0 d t]
  rfl

/-- The stored codes. -/
theorem Holds.out8 (i : Fin 9) (t : Fin 2048) : out1_8 X.x0 X.x1 X.x2 X.x3 X.x4 X.x5 X.x6 (ix3 0 i t)
    = BitVec.ofNat 32 (code (P i) (Rvq.res (seq P) (z t) i.val)).val := by
  rw [out8_eq]
  refine View.canon_apply_of_pieces (fun y : S1x9x2048.Idx => BitVec.ofNat 32 (code (P (y 1)) (Rvq.res (seq P) (z (y 2)) (y 1).val)).val)
    _ ?_ _ (cover1_8 (F := Ideal) _ _ _ _ _ _ _ _ _ _)
  have piece : ∀ (k : Fin 9) (h) (x : (Rect.unit (s := S1x9x2048) ![0, k.val, 0] S1x1x2048.size h).shape.Idx),
      k1_pay18 (kIdx X k (kRes X k.val)) x = BitVec.ofNat 32 (code (P k) (Rvq.res (seq P) (z (x 2)) k.val)).val := by
    intro k h x
    refine Eq.trans ?_ (H.idx k (H.res k.val) (x 2))
    pointwise [k1_pay18]
  have all : ∀ k : Fin 9, ∀ h, ∀ x : (Rect.unit (s := S1x9x2048) ![0, k.val, 0] S1x1x2048.size h).shape.Idx,
      k1_pay18 (kIdx X k (kRes X k.val)) x = (fun y : S1x9x2048.Idx => BitVec.ofNat 32 (code (P (y 1)) (Rvq.res (seq P) (z (y 2)) (y 1).val)).val)
        ((Rect.unit (s := S1x9x2048) ![0, k.val, 0] S1x1x2048.size h).emb x) := by
    intro k h x
    have e1 : (Rect.unit (s := S1x9x2048) ![0, k.val, 0] S1x1x2048.size h).emb x 1 = k := Fin.ext (by
      show k.val + 1 * (x 1).val = k.val
      have : (x 1).val < 1 := (x 1).isLt
      omega)
    have e2 : (Rect.unit (s := S1x9x2048) ![0, k.val, 0] S1x1x2048.size h).emb x 2 = x 2 := Fin.ext (by
      show 0 + 1 * (x 2).val = (x 2).val
      omega)
    rw [piece k h x]
    show _ = BitVec.ofNat 32 (code (P ((Rect.unit (s := S1x9x2048) ![0, k.val, 0] S1x1x2048.size h).emb x 1)) (Rvq.res (seq P)
      (z ((Rect.unit (s := S1x9x2048) ![0, k.val, 0] S1x1x2048.size h).emb x 2)) ((Rect.unit (s := S1x9x2048) ![0, k.val, 0] S1x1x2048.size h).emb x 1).val)).val
    rw [e1, e2]
  simp only [List.forall_mem_cons]
  exact ⟨all 8 _, all 7 _, all 6 _, all 5 _, all 4 _, all 3 _, all 2 _, all 1 _, all 0 _, by simp⟩

/-- The stored latents. -/
theorem Holds.out9 (i : Fin 9) (c : Fin 8) (t : Fin 2048) :
    out1_9 X.x0 X.x1 X.x2 X.x3 X.x4 X.x5 X.x6 (ix3 0 ⟨i.val * 8 + c.val, by omega⟩ t)
      = ((zE (P i) (Rvq.res (seq P) (z t) i.val) c : ℝ) : EReal) := by
  rw [out9_eq]
  have key := View.canon_apply_of_pieces (Val := Elt Ideal) (S := S1x72x2048) (e := .f32)
    (fun y : S1x72x2048.Idx => ((zE (P ⟨(y 1).val / 8, by have : (y 1).val < 72 := (y 1).isLt; omega⟩) (Rvq.res (seq P) (z (y 2)) ((y 1).val / 8))
      ⟨(y 1).val % 8, by omega⟩ : ℝ) : EReal))
    [⟨r1_72, k1_pay19 (kZe X 8 (kRes X 8))⟩, ⟨r1_64, k1_pay19 (kZe X 7 (kRes X 7))⟩, ⟨r1_56, k1_pay19 (kZe X 6 (kRes X 6))⟩,
      ⟨r1_48, k1_pay19 (kZe X 5 (kRes X 5))⟩, ⟨r1_40, k1_pay19 (kZe X 4 (kRes X 4))⟩, ⟨r1_32, k1_pay19 (kZe X 3 (kRes X 3))⟩,
      ⟨r1_24, k1_pay19 (kZe X 2 (kRes X 2))⟩, ⟨r1_16, k1_pay19 (kZe X 1 (kRes X 1))⟩, ⟨r1_8, k1_pay19 (kZe X 0 (kRes X 0))⟩]
    ?_ (ix3 0 ⟨i.val * 8 + c.val, by omega⟩ t) (cover1_9 (F := Ideal) _ _ _ _ _ _ _ _ _ _)
  · rw [key]
    have e1 : (i.val * 8 + c.val) / 8 = i.val := by omega
    have e2 : (i.val * 8 + c.val) % 8 = c.val := by omega
    simp only [ix3, e1, e2]
  have all : ∀ k : Fin 9, ∀ h, ∀ x : (Rect.unit (s := S1x72x2048) ![0, 8 * k.val, 0] S1x8x2048.size h).shape.Idx,
      k1_pay19 (kZe X k (kRes X k.val)) x = (fun y : S1x72x2048.Idx => ((zE (P ⟨(y 1).val / 8, by have : (y 1).val < 72 := (y 1).isLt; omega⟩)
        (Rvq.res (seq P) (z (y 2)) ((y 1).val / 8)) ⟨(y 1).val % 8, by omega⟩ : ℝ) : EReal))
        ((Rect.unit (s := S1x72x2048) ![0, 8 * k.val, 0] S1x8x2048.size h).emb x) := by
    intro k h x
    have h1 : (x 1).val < 8 := (x 1).isLt
    have e0 : ((Rect.unit (s := S1x72x2048) ![0, 8 * k.val, 0] S1x8x2048.size h).emb x 1).val = 8 * k.val + (x 1).val := by
      show 8 * k.val + 1 * (x 1).val = _; omega
    have e1 : ((Rect.unit (s := S1x72x2048) ![0, 8 * k.val, 0] S1x8x2048.size h).emb x 1).val / 8 = k.val := by omega
    have e1' : ((Rect.unit (s := S1x72x2048) ![0, 8 * k.val, 0] S1x8x2048.size h).emb x 1).val % 8 = (x 1).val := by omega
    have e2 : (Rect.unit (s := S1x72x2048) ![0, 8 * k.val, 0] S1x8x2048.size h).emb x 2 = x 2 := Fin.ext (by
      show 0 + 1 * (x 2).val = (x 2).val
      omega)
    simp only [e1, e1', e2]
    refine Eq.trans ?_ (H.ze k (H.res k.val) (x 1) (x 2))
    pointwise [k1_pay19]
  simp only [List.forall_mem_cons]
  exact ⟨all 8 _, all 7 _, all 6 _, all 5 _, all 4 _, all 3 _, all 2 _, all 1 _, all 0 _, by simp⟩

/-- The stored loss. -/
theorem Holds.out10 (l : Fin 128) : out1_10 X.x0 X.x1 X.x2 X.x3 X.x4 X.x5 X.x6 (ix3 0 0 l)
    = ((∑ j ∈ Finset.range 9, ∑ t, Rvq.err (seq P j) (Rvq.res (seq P) (z t) j) : ℝ) : EReal) := by
  rw [out10_eq, View.canon_unit_zero (S := S1x1x128) (by decide)]
  pointwise [k1_pay3]
  exact H.loss 9

end all

end Cert.Rvq
-- ==== Proof.Arrays.lean ====
/-
  WHAT THE SECOND REGION LEAVES: the grid's thirty-two points each hold 2048 columns of one batch, so the block theorems of
  BlockValue.lean, one per point, give the four result arrays at every index.
-/
module

public import proofs.«01_k».proof.Proof.BlockValue
public import Idealize.ShloMosaic.Lib.Pipeline.ValueKit

@[expose] public section

noncomputable section

namespace Cert.Rvq

open Idealize.ShloMosaic Idealize.ShloMosaic.TcCoe Cert.KernelIdeal Cert.KernelIdeal.Gen
open Idealize.SL Idealize.SL.Sem
open scoped BigOperators

variable (V : (c : Dev nD) → (b : Ref sig .tc) → Buf (Elt Ideal) ((c : Thread nD τ).loc b)) (c : Dev nD)

/-- The region finds the columns `z`, the parameters `P`, the regrouped codebooks and the scores' table in its arrays. -/
structure Found (P : Fin 9 → Lvl) (z : Fin 16 → Fin 4096 → Fin 512 → ℝ) : Prop where
  h0 : ∀ b d t, V c main_arg0 (ix3 b d t) = ((z b t d : ℝ) : EReal)
  h1 : ∀ i c' d, V c main_arg1 (ix3 i c' d) = (((P i).Wi c' d : ℝ) : EReal)
  h2 : ∀ i c', V c main_arg2 (ix2 i c') = (((P i).bi c' : ℝ) : EReal)
  h3 : ∀ i d c', V c main_arg3 (ix3 i d c') = (((P i).Wo d c' : ℝ) : EReal)
  h4 : ∀ i d, V c main_arg4 (ix2 i d) = (((P i).bo d : ℝ) : EReal)
  h5 : ∀ i (lo : Fin 128) (hi c' : Fin 8), V c main_v3 (ix3 i lo ⟨hi.val * 8 + c'.val, by omega⟩)
    = (((P i).cb ⟨hi.val * 128 + lo.val, by omega⟩ c' : ℝ) : EReal)
  h6 : ∀ i k (c' : Fin 8), V c main_v0 (ix3 i k c'.castSucc) = ((2 * dir ((P i).cb k) c' : ℝ) : EReal)
  h6' : ∀ i k, V c main_v0 (ix3 i k 8) = ((-∑ c', dir ((P i).cb k) c' * dir ((P i).cb k) c' : ℝ) : EReal)

/-- The blocks of grid point `t`. -/
abbrev blocks (t : Fin cfg1.N) : Blocks Ideal :=
  ⟨iblk1 V c 0 t, iblk1 V c 1 t, iblk1 V c 2 t, iblk1 V c 3 t, iblk1 V c 4 t, iblk1 V c 5 t, iblk1 V c 6 t⟩

/-- Grid point `t`'s batch. -/
def bat (t : Fin cfg1.N) : Fin 16 := ⟨t.val / 2, by have : t.val < 32 := t.isLt; omega⟩
/-- Grid point `t`'s column `l` in the batch. -/
def col (t : Fin cfg1.N) (l : Fin 2048) : Fin 4096 := ⟨t.val % 2 * 2048 + l.val, by omega⟩

theorem index0 : ∀ t : Fin cfg1.N, win1_0.index t = ![t.val / 2, 0, t.val % 2] :=
  (by decide +kernel : ∀ t : Fin grid1.N, win1_0.index t = ![t.val / 2, 0, t.val % 2])
theorem index1 : ∀ t : Fin cfg1.N, win1_1.index t = ![0, 0, 0] :=
  (by decide +kernel : ∀ t : Fin grid1.N, win1_1.index t = ![0, 0, 0])
theorem index2 : ∀ t : Fin cfg1.N, win1_2.index t = ![0, 0] :=
  (by decide +kernel : ∀ t : Fin grid1.N, win1_2.index t = ![0, 0])
theorem index3 : ∀ t : Fin cfg1.N, win1_3.index t = ![0, 0, 0] :=
  (by decide +kernel : ∀ t : Fin grid1.N, win1_3.index t = ![0, 0, 0])
theorem index4 : ∀ t : Fin cfg1.N, win1_4.index t = ![0, 0] :=
  (by decide +kernel : ∀ t : Fin grid1.N, win1_4.index t = ![0, 0])
theorem index5 : ∀ t : Fin cfg1.N, win1_5.index t = ![0, 0, 0] :=
  (by decide +kernel : ∀ t : Fin grid1.N, win1_5.index t = ![0, 0, 0])
theorem index6 : ∀ t : Fin cfg1.N, win1_6.index t = ![0, 0, 0] :=
  (by decide +kernel : ∀ t : Fin grid1.N, win1_6.index t = ![0, 0, 0])
theorem index7 : ∀ t : Fin cfg1.N, win1_7.index t = ![t.val / 2, 0, t.val % 2] :=
  (by decide +kernel : ∀ t : Fin grid1.N, win1_7.index t = ![t.val / 2, 0, t.val % 2])
theorem index8 : ∀ t : Fin cfg1.N, win1_8.index t = ![t.val / 2, 0, t.val % 2] :=
  (by decide +kernel : ∀ t : Fin grid1.N, win1_8.index t = ![t.val / 2, 0, t.val % 2])
theorem index9 : ∀ t : Fin cfg1.N, win1_9.index t = ![t.val / 2, 0, t.val % 2] :=
  (by decide +kernel : ∀ t : Fin grid1.N, win1_9.index t = ![t.val / 2, 0, t.val % 2])
theorem index10 : ∀ t : Fin cfg1.N, win1_10.index t = ![t.val, 0, 0] :=
  (by decide +kernel : ∀ t : Fin grid1.N, win1_10.index t = ![t.val, 0, 0])

variable {V c} {P : Fin 9 → Lvl} {z : Fin 16 → Fin 4096 → Fin 512 → ℝ}

/-- A point's blocks hold its batch's columns and the parameters. -/
theorem Found.holds (H : Found V c P z) (t : Fin cfg1.N) : Holds (blocks V c t) P fun l => z (bat t) (col t l) where
  h0 d l := by
    refine Eq.trans ?_ (H.h0 (bat t) d (col t l))
    show iblk1 V c 0 t (ix3 0 d l) = _
    blk_simp [iblk1]
    refine congrArg (V c main_arg0) ?_
    blk_ext [index0] <;> rfl
  h1 i a b := by
    refine Eq.trans ?_ (H.h1 i a b)
    show iblk1 V c 1 t (ix3 i a b) = _
    blk_simp [iblk1]
    refine congrArg (V c main_arg1) ?_
    blk_ext [index1]
  h2 i a := by
    refine Eq.trans ?_ (H.h2 i a)
    show iblk1 V c 2 t (ix2 i a) = _
    blk_simp [iblk1]
    refine congrArg (V c main_arg2) ?_
    blk_ext [index2]
  h3 i a b := by
    refine Eq.trans ?_ (H.h3 i a b)
    show iblk1 V c 3 t (ix3 i a b) = _
    blk_simp [iblk1]
    refine congrArg (V c main_arg3) ?_
    blk_ext [index3]
  h4 i a := by
    refine Eq.trans ?_ (H.h4 i a)
    show iblk1 V c 4 t (ix2 i a) = _
    blk_simp [iblk1]
    refine congrArg (V c main_arg4) ?_
    blk_ext [index4]
  h5 i lo hi a := by
    refine Eq.trans ?_ (H.h5 i lo hi a)
    show iblk1 V c 5 t (ix3 i lo ⟨hi.val * 8 + a.val, by omega⟩) = _
    blk_simp [iblk1]
    refine congrArg (V c main_v3) ?_
    blk_ext [index5]
  h6 i k a := by
    refine Eq.trans ?_ (H.h6 i k a)
    show iblk1 V c 6 t (ix3 i k a.castSucc) = _
    blk_simp [iblk1]
    refine congrArg (V c main_v0) ?_
    blk_ext [index6]
  h6' i k := by
    refine Eq.trans ?_ (H.h6' i k)
    show iblk1 V c 6 t (ix3 i k 8) = _
    blk_simp [iblk1]
    refine congrArg (V c main_v0) ?_
    blk_ext [index6]

/-- `z_q` at every index: the column less its last residual. -/
theorem Found.arr7 (H : Found V c P z) : (dat1 V c).arrAt 7 cfg1.N = fun j : S16x512x4096.Idx =>
    ((z (j 0) (j 2) (j 1) - Rvq.res (seq P) (z (j 0) (j 2)) 9 (j 1) : ℝ) : EReal) := by
  refine (dat1 V c).arrAt_eq_of_covers 7 _ (by decide +kernel) fun t _ y => ?_
  blk_simp
  rw [after1_7]
  rw [show (win1_7.blk t).view.emb y = ix3 (bat t) (y 1) (col t (y 2)) from by blk_ext [index7] <;> rfl]
  refine Eq.trans ?_ ((H.holds t).out7 (y 1) (y 2))
  refine congrArg _ ?_
  blk_ext

/-- The codes at every index. -/
theorem Found.arr8 (H : Found V c P z) : (dat1 V c).arrAt 8 cfg1.N = fun j : S16x9x4096.Idx =>
    codeAt P z (j 0) (j 1) (j 2) := by
  refine (dat1 V c).arrAt_eq_of_covers 8 _ (by decide +kernel) fun t _ y => ?_
  blk_simp
  rw [after1_8]
  rw [show (win1_8.blk t).view.emb y = ix3 (bat t) (y 1) (col t (y 2)) from by blk_ext [index8] <;> rfl]
  refine Eq.trans ?_ ((H.holds t).out8 (y 1) (y 2))
  refine congrArg _ ?_
  blk_ext

/-- The latents at every index. -/
theorem Found.arr9 (H : Found V c P z) : (dat1 V c).arrAt 9 cfg1.N = fun j : S16x72x4096.Idx =>
    ((zE (P (lev (j 1))) (Rvq.res (seq P) (z (j 0) (j 2)) (lev (j 1)).val) (coord (j 1)) : ℝ) : EReal) := by
  refine (dat1 V c).arrAt_eq_of_covers 9 _ (by decide +kernel) fun t _ y => ?_
  blk_simp
  rw [after1_9]
  rw [show (win1_9.blk t).view.emb y = ix3 (bat t) (y 1) (col t (y 2)) from by blk_ext [index9] <;> rfl]
  refine Eq.trans ?_ ((H.holds t).out9 (lev (y 1)) (coord (y 1)) (y 2))
  refine congrArg _ ?_
  blk_ext
  exact (Nat.div_add_mod' _ _).symm

/-- The point's share of the loss, in every lane. -/
theorem Found.arr10 (H : Found V c P z) : (dat1 V c).arrAt 10 cfg1.N = fun j : S32x1x128.Idx =>
    ((∑ k ∈ Finset.range 9, ∑ l, err (seq P k) (Rvq.res (seq P) (z (bat (j 0)) (col (j 0) l)) k) : ℝ) : EReal) := by
  refine (dat1 V c).arrAt_eq_of_covers 10 _ (by decide +kernel) fun t _ y => ?_
  blk_simp
  rw [after1_10]
  rw [show (win1_10.blk t).view.emb y = ix3 t 0 (y 2) from by blk_ext [index10] <;> rfl]
  refine Eq.trans ?_ ((H.holds t).out10 (y 2))
  refine congrArg _ ?_
  blk_ext

/-- The first region's one block is its whole array. -/
theorem arr1 : (dat0 V c).arrAt 1 cfg0.N = k0_pay1 (F := Ideal) (V c main_arg5) := by
  have i0 : ∀ t : Fin cfg0.N, win0_0.index t = ![0, 0, 0] := (by decide +kernel : ∀ t : Fin grid0.N, win0_0.index t = ![0, 0, 0])
  have i1 : ∀ t : Fin cfg0.N, win0_1.index t = ![0, 0, 0] := (by decide +kernel : ∀ t : Fin grid0.N, win0_1.index t = ![0, 0, 0])
  refine (dat0 V c).arrAt_eq_of_covers 1 _ (by decide +kernel) fun t _ y => ?_
  blk_simp
  rw [after0_1]
  rw [show (win0_1.blk t).view.emb y = y from by blk_ext [i1] <;> rfl]
  have e : iblk0 V c 0 t = V c main_arg5 := by
    funext x
    blk_simp [iblk0]
    refine congrArg (V c main_arg5) ?_
    blk_ext [i0] <;> rfl
  rw [e]
  unfold out0_1
  rw [View.canon_unit_zero (S := S9x1024x9) (by decide), View.ld_unit_zero (S := S9x1024x8) (by decide)]

/-- Twice the code directions, and beside them minus their squares. -/
theorem aug_apply {cb : Vec Ideal S9x1024x8 .f32} {P : Fin 9 → Lvl} (h : ∀ i k c', cb (ix3 i k c') = (((P i).cb k c' : ℝ) : EReal))
    (i : Fin 9) (k : Fin 1024) (c' : Fin 8) : k0_pay1 cb (ix3 i k c'.castSucc) = ((2 * dir ((P i).cb k) c' : ℝ) : EReal) := by
  pointwise [k0_pay1]
  rw [dif_pos (show c'.castSucc.val < 8 from c'.isLt), show (730643660#32 : BitVec 32) = 0x2B8CBCCC#32 from rfl, ofBits_eps,
    show (1073741824#32 : BitVec 32) = 0x40000000#32 from rfl, ofBits_two]
  simp only [h, div_len]
  rw [EReal.coe_mul]
  rfl

theorem aug_apply' {cb : Vec Ideal S9x1024x8 .f32} {P : Fin 9 → Lvl} (h : ∀ i k c', cb (ix3 i k c') = (((P i).cb k c' : ℝ) : EReal))
    (i : Fin 9) (k : Fin 1024) : k0_pay1 cb (ix3 i k 8)
      = ((-∑ c', dir ((P i).cb k) c' * dir ((P i).cb k) c' : ℝ) : EReal) := by
  pointwise [k0_pay1]
  rw [show (730643660#32 : BitVec 32) = 0x2B8CBCCC#32 from rfl, ofBits_eps]
  simp only [h, div_len]
  simp only [← EReal.coe_mul, ← coe_sum]
  rw [zero_sub, EReal.coe_neg]

end Cert.Rvq

end
-- ==== Proof.KernelRun.lean ====
/-
  THE KERNEL'S RUN, WITH VALUES: every buffer ends at the fold of the program's segments, and on real arguments the five
  results are the specification's.
-/
module

public import proofs.«01_k».proof.Proof.Arrays
public import Idealize.ShloMosaic.Lib.StableHlo.Run

@[expose] public section

noncomputable section

namespace Cert.Rvq

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators

section run
variable {F : FTy → Type} [FloatOps F]
variable (m : (ℓ : Loc nD τ sig) → Buf (Elt F) ℓ) (ρ : Dev nD → PrngReg)

-- as the frame's own statement needs
set_option backward.isDefEq.respectTransparency.types false in
/-- Every execution ends with every buffer of @main at the last boundary's contents. -/
theorem kernel_run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end run

variable (m : (ℓ : Loc nD τ sig) → Buf (Elt Ideal) ℓ) (ρ : Dev nD → PrngReg) (c : Dev nD)

/-- The arguments are the columns `z` and the parameters `P`. -/
structure Given (P : Fin 9 → Lvl) (z : Fin 16 → Fin 4096 → Fin 512 → ℝ) : Prop where
  h0 : ∀ b d t, m ((c.tc : Thread nD τ).loc main_arg0) (ix3 b d t) = ((z b t d : ℝ) : EReal)
  h1 : ∀ i c' d, m ((c.tc : Thread nD τ).loc main_arg1) (ix3 i c' d) = (((P i).Wi c' d : ℝ) : EReal)
  h2 : ∀ i c', m ((c.tc : Thread nD τ).loc main_arg2) (ix2 i c') = (((P i).bi c' : ℝ) : EReal)
  h3 : ∀ i d c', m ((c.tc : Thread nD τ).loc main_arg3) (ix3 i d c') = (((P i).Wo d c' : ℝ) : EReal)
  h4 : ∀ i d, m ((c.tc : Thread nD τ).loc main_arg4) (ix2 i d) = (((P i).bo d : ℝ) : EReal)
  h5 : ∀ i k c', m ((c.tc : Thread nD τ).loc main_arg5) (ix3 i k c') = (((P i).cb k c' : ℝ) : EReal)

variable {m c} {P : Fin 9 → Lvl} {z : Fin 16 → Fin 4096 → Fin 512 → ℝ}

/-- Between the regions the codebooks are regrouped. -/
theorem cbr_eq : W2 m ρ c (Proc.devRef .tc main_v3) = shapeCast S9x128x64 (transpose S9x128x8x8 [0, 2, 1, 3]
    (shapeCast S9x8x128x8 (W1 m ρ c (Proc.devRef .tc main_arg5)) shapeCasts_S9x1024x8_S9x8x128x8)
      transposes_S9x8x128x8_S9x128x8x8_0_2_1_3) shapeCasts_S9x128x8x8_S9x128x64 := by
  after_results
  rfl

theorem cbr_apply (cb : Vec Ideal S9x1024x8 .f32) (i : Fin 9) (lo : Fin 128) (hi c' : Fin 8) :
    shapeCast S9x128x64 (transpose S9x128x8x8 [0, 2, 1, 3]
    (shapeCast S9x8x128x8 cb shapeCasts_S9x1024x8_S9x8x128x8)
      transposes_S9x8x128x8_S9x128x8x8_0_2_1_3) shapeCasts_S9x128x8x8_S9x128x64 (ix3 i lo ⟨hi.val * 8 + c'.val, by omega⟩)
      = cb (ix3 i ⟨hi.val * 128 + lo.val, by omega⟩ c') := by
  pointwise

/-- The second region finds the arguments, the regrouped codebooks and the scores' table. -/
theorem Given.found (H : Given m c P z) : Found (V2 m ρ) c P z where
  h0 b d t := (congrFun (W2_args m ρ c main_arg0 (by decide)) _).trans (H.h0 b d t)
  h1 b d t := (congrFun (W2_args m ρ c main_arg1 (by decide)) _).trans (H.h1 b d t)
  h2 b d := (congrFun (W2_args m ρ c main_arg2 (by decide)) _).trans (H.h2 b d)
  h3 b d t := (congrFun (W2_args m ρ c main_arg3 (by decide)) _).trans (H.h3 b d t)
  h4 b d := (congrFun (W2_args m ρ c main_arg4 (by decide)) _).trans (H.h4 b d)
  h5 i lo hi c' := by
    refine (congrFun (cbr_eq ρ) _).trans ((cbr_apply _ i lo hi c').trans ?_)
    exact (congrFun (W1_args m ρ c main_arg5 (by decide)) _).trans (H.h5 _ _ _)
  h6 i k c' := by
    refine (congrFun ((W2_of m ρ c main_v0 (by decide)).trans ((W1_arr m ρ c 1).trans arr1)) _).trans ?_
    exact aug_apply H.h5 i k c'
  h6' i k := by
    refine (congrFun ((W2_of m ρ c main_v0 (by decide)).trans ((W1_arr m ρ c 1).trans arr1)) _).trans ?_
    exact aug_apply' H.h5 i k

/-- The mean of the squared error over all levels, as the loss's one number. -/
def total (P : Fin 9 → Lvl) (z : Fin 16 → Fin 4096 → Fin 512 → ℝ) : ℝ :=
  (∑ k ∈ Finset.range 9, ∑ b, ∑ t, err (seq P k) (Rvq.res (seq P) (z b t) k)) / 524288

theorem loss_eq : W4 m ρ c (Proc.devRef .tc main_v8) = Host.divf (F := Ideal) (φ := .f32) (Host.reduceAdd (shapeCast S32 (extractStridedSlice S32x1x1 ![0, 0, 0]
    (W3 m ρ c (Proc.devRef .tc main_v4_3)) slices_S32x1x128_S32x1x1_0_0_0) shapeCasts_S32x1x1_S32) (constant S_ .f32 0x00000000#32)
      reducesTo_S32_S_d0 h_S_) (constant S_ .f32 0x49000000#32) := by
  after_results
  rfl

/-- The grid points' columns are every column of every batch, once. -/
theorem sum_points (f : Fin 16 → Fin 4096 → ℝ) : ∑ p : Fin 32, ∑ l, f (bat p) (col p l) = ∑ b, ∑ t, f b t := by
  rw [← Fintype.sum_prod_type', ← Fintype.sum_prod_type']
  refine Finset.sum_nbij' (fun x => (bat x.1, col x.1 x.2))
    (fun y => ((⟨y.1.val * 2 + y.2.val / 2048, by omega⟩ : Fin 32), (⟨y.2.val % 2048, by omega⟩ : Fin 2048)))
    (fun _ _ => Finset.mem_univ _) (fun _ _ => Finset.mem_univ _) ?_ ?_ (fun _ _ => rfl)
  · rintro ⟨p, l⟩ -
    have hp := p.isLt; have hl := l.isLt
    refine Prod.ext (Fin.ext ?_) (Fin.ext ?_)
    · show p.val / 2 * 2 + (p.val % 2 * 2048 + l.val) / 2048 = p.val
      omega
    · show (p.val % 2 * 2048 + l.val) % 2048 = l.val
      omega
  · rintro ⟨b, t⟩ -
    have hb := b.isLt; have ht := t.isLt
    refine Prod.ext (Fin.ext ?_) (Fin.ext ?_)
    · show (b.val * 2 + t.val / 2048) / 2 = b.val
      omega
    · show (b.val * 2 + t.val / 2048) % 2 * 2048 + t.val % 2048 = t.val
      omega

/-- The points' losses summed and divided are the mean over everything. -/
theorem loss_mean (x : Vec Ideal S32x1x128 .f32) (hx : ∀ j, x j = ((∑ k ∈ Finset.range 9, ∑ l, err (seq P k) (Rvq.res (seq P) (z (bat (j 0)) (col (j 0) l)) k) : ℝ) : EReal))
    (j : S_.Idx) : Host.divf (F := Ideal) (φ := .f32) (Host.reduceAdd (shapeCast S32 (extractStridedSlice S32x1x1 ![0, 0, 0]
    x slices_S32x1x128_S32x1x1_0_0_0) shapeCasts_S32x1x1_S32) (constant S_ .f32 0x00000000#32)
      reducesTo_S32_S_d0 h_S_) (constant S_ .f32 0x49000000#32) j = ((total P z : ℝ) : EReal) := by
  pointwise
  simp only [hx]
  rw [show (1224736768#32 : BitVec 32) = 0x49000000#32 from rfl, ofBits_524288, ← coe_sum, div_real _ (by norm_num)]
  refine congrArg (fun x : ℝ => ((x / 524288 : ℝ) : EReal)) ?_
  rw [Finset.sum_comm]
  exact Finset.sum_congr rfl fun k _ => sum_points fun b t => err (seq P k) (Rvq.res (seq P) (z b t) k)

variable (P z) in
/-- The result `z_q`: each column less its last residual. -/
def zqSpec : Vec Ideal S16x512x4096 .f32 := fun j =>
  ((z (j 0) (j 2) (j 1) - Rvq.res (seq P) (z (j 0) (j 2)) 9 (j 1) : ℝ) : EReal)

variable (P z) in
/-- The codes. -/
def codesSpec : Vec Ideal S16x9x4096 .i32 := fun j => codeAt P z (j 0) (j 1) (j 2)

variable (P z) in
/-- The latents: level `i`'s coordinates in rows `8·i` to `8·i + 7`. -/
def latentsSpec : Vec Ideal S16x72x4096 .f32 := fun j =>
  ((zE (P (lev (j 1))) (Rvq.res (seq P) (z (j 0) (j 2)) (lev (j 1)).val) (coord (j 1)) : ℝ) : EReal)

variable (P z) in
/-- Either loss. -/
def lossSpec : Vec Ideal S_ .f32 := fun _ => ((total P z : ℝ) : EReal)

/-- The last boundary's contents of the result buffers. -/
theorem Given.w4_0 (H : Given m c P z) : W4 m ρ c (Proc.devRef .tc main_v4_0) = zqSpec P z :=
  (W4_of m ρ c main_v4_0 (by decide)).trans ((W3_arr m ρ c 7).trans (H.found ρ).arr7)

theorem Given.w4_1 (H : Given m c P z) : W4 m ρ c (Proc.devRef .tc main_v4_1) = codesSpec P z :=
  (W4_of m ρ c main_v4_1 (by decide)).trans ((W3_arr m ρ c 8).trans (H.found ρ).arr8)

theorem Given.w4_2 (H : Given m c P z) : W4 m ρ c (Proc.devRef .tc main_v4_2) = latentsSpec P z :=
  (W4_of m ρ c main_v4_2 (by decide)).trans ((W3_arr m ρ c 9).trans (H.found ρ).arr9)

theorem Given.w4_8 (H : Given m c P z) : W4 m ρ c (Proc.devRef .tc main_v8) = lossSpec P z :=
  (loss_eq ρ).trans (funext fun j => loss_mean _ (fun i => congrFun ((W3_arr m ρ c 10).trans (H.found ρ).arr10) i) j)

/-- The kernel computes the specification: every execution ends with the five results, and with the arguments as launched. -/
theorem kernel_value {P : Dev nD → Fin 9 → Lvl} {z : Dev nD → Fin 16 → Fin 4096 → Fin 512 → ℝ} (H : ∀ c, Given m c (P c) (z c)) :
    θ_run defs (onTc (τ := τ) (main (F := Ideal))) ⟨m, fun _ => 0, ρ⟩ (fun r => ∀ c : Dev nD,
      r.2.mem ((c.tc : Thread nD τ).loc main_v4_0) = zqSpec (P c) (z c)
      ∧ r.2.mem ((c.tc : Thread nD τ).loc main_v4_1) = codesSpec (P c) (z c)
      ∧ r.2.mem ((c.tc : Thread nD τ).loc main_v4_2) = latentsSpec (P c) (z c)
      ∧ r.2.mem ((c.tc : Thread nD τ).loc main_v8) = lossSpec (P c) (z c)
      ∧ r.2.mem ((c.tc : Thread nD τ).loc main_v8) = lossSpec (P c) (z c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v4_0 (by decide))).trans ((H c).w4_0 ρ), (h c _ (mem_uc main_v4_1 (by decide))).trans ((H c).w4_1 ρ),
      (h c _ (mem_uc main_v4_2 (by decide))).trans ((H c).w4_2 ρ), (h c _ (mem_uc main_v8 (by decide))).trans ((H c).w4_8 ρ),
      (h c _ (mem_uc main_v8 (by decide))).trans ((H c).w4_8 ρ),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩)
    (kernel_run m ρ)

end Cert.Rvq

end
-- ==== Proof.RefOps.lean ====
/-
  THE REFERENCE'S INDEXING OPERATIONS, read at an index on finite operands: the arg-max over a row of distances, which is the
  first index at which the row is greatest, and the gather of a codebook's rows at codes.
-/
module

public import proofs.«01_k».proof.Proof.Gen.ReferenceIdeal.Run
public import proofs.«01_k».proof.Proof.Reals
public import Idealize.ShloMosaic.Lib.DynamicIndex
public import Idealize.ShloMosaic.Lib.ValueIdxCore
public import Idealize.ShloMosaic.Lib.WordCmp

@[expose] public section

noncomputable section

namespace Cert.Rvq.Ref

open Idealize.ShloMosaic Cert.ReferenceIdeal Cert.ReferenceIdeal.Gen
open scoped BigOperators

/-- A number and its index, as the arg-max's pair. -/
def pair (g : Fin 1024 → ℝ) (k : Fin 1024) : Ideal .f32 × BitVec 32 := (((g k : ℝ) : EReal), BitVec.ofNat 32 k.val)

/-- `k` comes before `l` in the order of the arg-max: greater, or as great at a smaller index. -/
def Beats (g : Fin 1024 → ℝ) (k l : Fin 1024) : Prop := g l < g k ∨ g k = g l ∧ k ≤ l

theorem slt_small (k l : Fin 1024) : IntOp.cmpi .slt (BitVec.ofNat 32 k.val) (BitVec.ofNat 32 l.val) = if k < l then 1#1 else 0#1 := by
  show BitVec.ofBool ((BitVec.ofNat 32 k.val).slt (BitVec.ofNat 32 l.val)) = _
  have hk := k.isLt
  have hl := l.isLt
  unfold BitVec.slt
  rw [toInt_ofNat_of_lt (by omega), toInt_ofNat_of_lt (by omega)]
  by_cases h : k < l
  · rw [if_pos h, decide_eq_true (by exact_mod_cast h)]; rfl
  · rw [if_neg h, decide_eq_false (by exact_mod_cast h)]; rfl

/-- One step of the arg-max keeps the pair that comes first. -/
theorem step (g : Fin 1024 → ℝ) (k l : Fin 1024) :
    ∃ n, (n = k ∨ n = l) ∧ Beats g n k ∧ Beats g n l ∧ reducer_argmax_f32_i32 (F := Ideal) (pair g k) (pair g l) = pair g n := by
  have hu : FloatOps.cmpf (F := Ideal) .une (pair g k).1 (pair g k).1 = 0#1 := by
    simp [Ideal.cmpf_def, Ideal.cmp]
  unfold reducer_argmax_f32_i32
  simp only [hu]
  have hs := slt_small k l
  rcases lt_trichotomy (g k) (g l) with h | h | h
  · refine ⟨l, .inr rfl, .inl h, .inr ⟨rfl, le_rfl⟩, ?_⟩
    have h1 : FloatOps.cmpf (F := Ideal) .ogt (pair g k).1 (pair g l).1 = 0#1 := by
      simp [Ideal.cmpf_def, Ideal.cmp, pair, not_lt.mpr h.le]
    have h2 : FloatOps.cmpf (F := Ideal) .oeq (pair g k).1 (pair g l).1 = 0#1 := by
      simp [Ideal.cmpf_def, Ideal.cmp, pair, h.ne]
    simp only [h1, h2]
    show _ = (_, _)
    rcases (show ∀ b : BitVec 1, b = 1#1 ∨ b = 0#1 by decide) (IntOp.cmpi .slt (pair g k).2 (pair g l).2) with e | e <;> rw [e] <;> rfl
  · have h1 : FloatOps.cmpf (F := Ideal) .ogt (pair g k).1 (pair g l).1 = 0#1 := by
      simp [Ideal.cmpf_def, Ideal.cmp, pair, not_lt.mpr h.le]
    have h2 : FloatOps.cmpf (F := Ideal) .oeq (pair g k).1 (pair g l).1 = 1#1 := by
      simp [Ideal.cmpf_def, Ideal.cmp, pair, h]
    have h3 : IntOp.cmpi .slt (pair g k).2 (pair g l).2 = if k < l then 1#1 else 0#1 := hs
    simp only [h1, h2, h3]
    by_cases hkl : k < l
    · refine ⟨k, .inl rfl, .inr ⟨rfl, le_rfl⟩, .inr ⟨h, hkl.le⟩, ?_⟩
      rw [if_pos hkl]
      show ((pair g l).1, (pair g k).2) = _
      unfold pair; rw [h]
    · refine ⟨l, .inr rfl, .inr ⟨h.symm, not_lt.mp hkl⟩, .inr ⟨rfl, le_rfl⟩, ?_⟩
      rw [if_neg hkl]
      rfl
  · refine ⟨k, .inl rfl, .inr ⟨rfl, le_rfl⟩, .inl h, ?_⟩
    have h1 : FloatOps.cmpf (F := Ideal) .ogt (pair g k).1 (pair g l).1 = 1#1 := by
      simp [Ideal.cmpf_def, Ideal.cmp, pair, h]
    simp only [h1]
    show (_, Scalar.select (IntOp.ori 1#1 _) _ _) = _
    rcases (show ∀ b : BitVec 1, b = 1#1 ∨ b = 0#1 by decide) (IntOp.andi (FloatOps.cmpf (F := Ideal) .oeq (pair g k).1 (pair g l).1) (IntOp.cmpi .slt (pair g k).2 (pair g l).2)) with e | e <;> rw [e] <;> rfl

theorem Beats.trans {g : Fin 1024 → ℝ} {a b c : Fin 1024} (h : Beats g a b) (h' : Beats g b c) : Beats g a c := by
  rcases h with h | ⟨h, i⟩ <;> rcases h' with h' | ⟨h', i'⟩
  · exact .inl (h'.trans h)
  · exact .inl (h' ▸ h)
  · exact .inl (h ▸ h')
  · exact .inr ⟨h.trans h', i.trans i'⟩

/-- A fold of the arg-max's step from a pair, over a list of indices: the pair that comes first. -/
theorem fold_pairs (g : Fin 1024 → ℝ) (ks : List (Fin 1024)) : ∀ k, ∃ n, Beats g n k ∧ (∀ l ∈ ks, Beats g n l) ∧
    (ks.map (pair g)).foldl (reducer_argmax_f32_i32 (F := Ideal)) (pair g k) = pair g n := by
  induction ks with
  | nil => intro k; exact ⟨k, .inr ⟨rfl, le_rfl⟩, by simp, rfl⟩
  | cons a ks ih =>
    intro k
    obtain ⟨n, -, h1, h2, e⟩ := step g k a
    obtain ⟨n', h3, h4, e'⟩ := ih n
    refine ⟨n', h3.trans h1, ?_, ?_⟩
    · intro l hl
      rcases List.mem_cons.1 hl with rfl | hl
      · exact h3.trans h2
      · exact h4 l hl
    · rw [List.map_cons, List.foldl_cons, e, e']

/-- The first step, from the initial pair: the first pair itself. -/
theorem step_init (g : Fin 1024 → ℝ) (k : Fin 1024) :
    reducer_argmax_f32_i32 (F := Ideal) ((⊥ : EReal), 0#32) (pair g k) = pair g k := by
  have hu : FloatOps.cmpf (F := Ideal) (φ := .f32) .une (⊥ : EReal) (⊥ : EReal) = 0#1 := by
    simp [Ideal.cmpf_def, Ideal.cmp]
  have h1 : FloatOps.cmpf (F := Ideal) (φ := .f32) .ogt (⊥ : EReal) (pair g k).1 = 0#1 := by
    simp [Ideal.cmpf_def, Ideal.cmp, pair]
  have h2 : FloatOps.cmpf (F := Ideal) (φ := .f32) .oeq (⊥ : EReal) (pair g k).1 = 0#1 := by
    simp [Ideal.cmpf_def, Ideal.cmp, pair]
  unfold reducer_argmax_f32_i32
  simp only [hu, h1, h2]
  rcases (show ∀ b : BitVec 1, b = 1#1 ∨ b = 0#1 by decide) (IntOp.cmpi .slt 0#32 (pair g k).2) with e | e <;> rw [e] <;> rfl

/-- The lane a flat position of the distance table is in. -/
def lane (n : Fin S65536x1024.numel) : Fin 1024 := (S65536x1024.rowMajor.symm n) 1

/-- The lanes of row `r`, in row-major order. -/
def lanes (r : Fin 65536) : List (Fin 1024) :=
  ((List.finRange S65536x1024.numel).filter fun n =>
    reducesTo_S65536x1024_S65536_d1.drop (S65536x1024.rowMajor.symm n) = ix1 r).map lane

/-- THE ARG-MAX of a row of real numbers is the first index at which the row is greatest. -/
theorem argmax_apply (x : FVec Ideal S65536x1024 .f32) (y : IVec S65536x1024 32) (ix : FVec Ideal S_ .f32) (iy : IVec S_ 32)
    (hix : ix = constant S_ .f32 0xFF800000#32) (hiy : iy = constantI S_ 32 0#32) (r : Fin 65536) (g : Fin 1024 → ℝ)
    (hx : ∀ k, x (ix2 r k) = ((g k : ℝ) : EReal)) (hy : ∀ k, y (ix2 r k) = BitVec.ofNat 32 k.val) :
    (Host.argReduce (F := Ideal) (φ := .f32) reducer_argmax_f32_i32 x y ix iy reducesTo_S65536x1024_S65536_d1 h_S_ (ix1 r)).2
      = BitVec.ofNat 32 (firstMax g).val := by
  subst hix hiy
  rw [Ideal.argReduce_eq_reduce2, Host.reduce2_eq_foldl_fiber]
  have hfib : Host.argReduceFiber x y reducesTo_S65536x1024_S65536_d1 (ix1 r)
      = (lanes r).map (pair g) := by
    unfold Host.argReduceFiber
    rw [lanes, List.map_map]
    refine List.map_congr_left fun n hn => ?_
    have hd := (List.mem_filter.1 hn).2
    have hd' : (reducesTo_S65536x1024_S65536_d1).drop (S65536x1024.rowMajor.symm n) = ix1 r := by simpa using hd
    have hi : S65536x1024.rowMajor.symm n = ix2 r (lane n) := by
      have h0 := congrFun hd' 0
      funext a
      match a with
      | ⟨0, _⟩ => exact h0
      | ⟨1, _⟩ => rfl
    show (x (S65536x1024.rowMajor.symm n), y (S65536x1024.rowMajor.symm n)) = pair g (lane n)
    rw [hi]
    exact Prod.ext (hx _) (hy _)
  have hmem : ∀ l : Fin 1024, l ∈ lanes r := by
    intro l
    refine List.mem_map.2 ⟨S65536x1024.rowMajor (ix2 r l), List.mem_filter.2 ⟨List.mem_finRange _, ?_⟩, ?_⟩
    · rw [decide_eq_true_iff, Equiv.symm_apply_apply]
      funext a
      match a with
      | ⟨0, _⟩ => rfl
    · rw [lane, Equiv.symm_apply_apply]; rfl
  rw [hfib]
  generalize lanes r = ks at hmem
  have e0 : ((constant (F := Ideal) S_ .f32 0xFF800000#32 (Shape.Idx.first h_S_), constantI S_ 32 0#32 (Shape.Idx.first h_S_)) : Ideal .f32 × BitVec 32)
      = ((⊥ : EReal), 0#32) := by
    refine Prod.ext ?_ rfl
    exact ofBits_bot
  rw [e0]
  cases ks with
  | nil => exact absurd (hmem 0) (by simp)
  | cons a ks =>
    rw [List.map_cons, List.foldl_cons, step_init]
    obtain ⟨n, h1, h2, e⟩ := fold_pairs g ks a
    rw [e]
    have hall : ∀ l, Beats g n l := fun l => by
      rcases List.mem_cons.1 (hmem l) with rfl | hl
      · exact h1
      · exact h2 l hl
    have : IsFirstMax g n := by
      constructor
      · intro j
        rcases hall j with h | h
        · exact h.le
        · exact h.1.ge
      · intro j hj
        rcases hall j with h | h
        · exact h
        · exact absurd hj (not_lt.mpr h.2)
    rw [this.unique (firstMax_spec g)]
    rfl

/-- THE GATHER of a codebook's rows at `(r, c)`: the row the index names, where it names one. -/
theorem gather_apply (x : FVec Ideal S1024x8 .f32) (idx : IVec S65536x1 32) (r : Fin 65536) (c : Fin 8) (n : Fin 1024)
    (h : idx (ix2 r 0) = BitVec.ofNat 32 n.val) :
    Host.gather gather_S1024x8_S65536x1_S65536x8_1_0_n_n_0_1_18 x idx (ix2 r c) = x (ix2 n c) := by
  unfold Host.gather
  congr 1
  funext a
  refine Fin.ext ?_
  set D := gather_S1024x8_S65536x1_S65536x8_1_0_n_n_0_1_18 with hD
  show D.start (ix2 r c) idx a + D.batchCoord (ix2 r c) a + D.offCoord (ix2 r c) a = _
  rw [GatherDims.batchCoord_eq_zero _ _ _ (fun h => by simp [hD, gather_S1024x8_S65536x1_S65536x8_1_0_n_n_0_1_18] at h)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix2 r c) ⟨List.idxOf (0 : Fin 2) D.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi, h, toInt_ofNat_of_lt (by have := n.isLt; omega)]
    show min (n.val : ℤ).toNat 1023 = n.val
    have := n.isLt
    rw [Int.toNat_natCast]; omega
  · have hs : D.start (ix2 r c) idx 1 = 0 := by
      unfold GatherDims.start
      rw [dif_neg (fun h => by simp [hD, gather_S1024x8_S65536x1_S65536x8_1_0_n_n_0_1_18] at h)]
    rw [hs]
    simp only [Nat.zero_add]
    unfold GatherDims.offCoord
    rfl

end Cert.Rvq.Ref
-- ==== Proof.RefStretch.lean ====
/-
  THE STRETCHES of the reference's level loop, each read at an index: what a stretch leaves in the buffers later stretches
  read, on finite operands. `n` is the level, `L` its parameters and `R b t` the residual of column `(b, t)` at the level's
  start. The reference numbers its 65536 columns in one row: row `r` is column `(batch r, time r)`.
-/
module

public import proofs.«01_k».proof.Proof.RefOps
public import Idealize.ShloMosaic.Lib.Pointwise
public import Idealize.ShloMosaic.Lib.StableHlo.ReadAt

@[expose] public section

noncomputable section

namespace Cert.Rvq.Ref

open Idealize.ShloMosaic Idealize.ShloMosaic.TcCoe Cert.ReferenceIdeal Cert.ReferenceIdeal.Gen
open Idealize.ShloMosaic.StableHlo Idealize.ShloMosaic.Tactic
open scoped BigOperators

/-- Row `r`'s batch. -/
def batch (r : Fin 65536) : Fin 16 := ⟨r.val / 4096, by omega⟩
/-- Row `r`'s time step. -/
def time (r : Fin 65536) : Fin 4096 := ⟨r.val % 4096, by omega⟩
/-- Column `(b, t)`'s row. -/
def row (b : Fin 16) (t : Fin 4096) : Fin 65536 := ⟨b.val * 4096 + t.val, by omega⟩

theorem batch_row (b : Fin 16) (t : Fin 4096) : batch (row b t) = b := Fin.ext (by show (b.val * 4096 + t.val) / 4096 = _; omega)
theorem time_row (b : Fin 16) (t : Fin 4096) : time (row b t) = t := Fin.ext (by show (b.val * 4096 + t.val) % 4096 = _; omega)

/-! ## A level's block of a nine-level array -/

section Blocks
variable {α : Type} {A B C : ℕ} {n : ℕ} (hn : n < 9)
include hn

/-- A three-axis array read in level `n`'s block. -/
theorem at3 (x : (⟨3, ![9, A, B]⟩ : Shape).Idx → α) (st : Fin 3 → ℤ) (ht : 3 = 3) (h0 : st 0 = n) (h1 : st 1 = 0) (h2 : st 2 = 0)
    (a : Fin A) (b : Fin B) (p0 p1 p2) :
    x (ix3 ⟨Host.clampedStart ⟨3, ![9, A, B]⟩ ⟨3, ![1, A, B]⟩ ht st 0, p0⟩
        ⟨Host.clampedStart ⟨3, ![9, A, B]⟩ ⟨3, ![1, A, B]⟩ ht st 1 + a.val, p1⟩
        ⟨Host.clampedStart ⟨3, ![9, A, B]⟩ ⟨3, ![1, A, B]⟩ ht st 2 + b.val, p2⟩) = x (ix3 (⟨n, hn⟩ : Fin 9) a b) := by
  have e0 := Host.clampedStart_of_le (s := ⟨3, ![9, A, B]⟩) (t := ⟨3, ![1, A, B]⟩) ht st 0 n h0 (by show n + 1 ≤ 9; omega)
  have e1 := Host.clampedStart_of_le (s := ⟨3, ![9, A, B]⟩) (t := ⟨3, ![1, A, B]⟩) ht st 1 0 h1 (by show 0 + A ≤ A; omega)
  have e2 := Host.clampedStart_of_le (s := ⟨3, ![9, A, B]⟩) (t := ⟨3, ![1, A, B]⟩) ht st 2 0 h2 (by show 0 + B ≤ B; omega)
  simp only [e0, e1, e2, Nat.zero_add]

/-- A two-axis array read in level `n`'s block. -/
theorem at2 (x : (⟨2, ![9, A]⟩ : Shape).Idx → α) (st : Fin 2 → ℤ) (ht : 2 = 2) (h0 : st 0 = n) (h1 : st 1 = 0)
    (a : Fin A) (p0 p1) :
    x (ix2 ⟨Host.clampedStart ⟨2, ![9, A]⟩ ⟨2, ![1, A]⟩ ht st 0, p0⟩
        ⟨Host.clampedStart ⟨2, ![9, A]⟩ ⟨2, ![1, A]⟩ ht st 1 + a.val, p1⟩) = x (ix2 (⟨n, hn⟩ : Fin 9) a) := by
  have e0 := Host.clampedStart_of_le (s := ⟨2, ![9, A]⟩) (t := ⟨2, ![1, A]⟩) ht st 0 n h0 (by show n + 1 ≤ 9; omega)
  have e1 := Host.clampedStart_of_le (s := ⟨2, ![9, A]⟩) (t := ⟨2, ![1, A]⟩) ht st 1 0 h1 (by show 0 + A ≤ A; omega)
  simp only [e0, e1, Nat.zero_add]

/-- A three-axis array with level `n`'s block replaced. -/
theorem put3 (x : (⟨3, ![9, A, B]⟩ : Shape).Idx → α) (u : (⟨3, ![1, A, B]⟩ : Shape).Idx → α) (st : Fin 3 → ℤ)
    (h : (⟨3, ![9, A, B]⟩ : Shape).Slices (fun _ => 0) ⟨3, ![1, A, B]⟩)
    (h0 : st 0 = n) (h1 : st 1 = 0) (h2 : st 2 = 0) (i : Fin 9) (a : Fin A) (b : Fin B) :
    Host.dynamicUpdateSlice x u st h (ix3 i a b) = if i.val = n then u (ix3 (0 : Fin 1) a b) else x (ix3 i a b) := by
  have ha := a.isLt
  have hb := b.isLt
  rw [WordCmp.dynamicUpdateSlice_eq_update x u st h ![n, 0, 0] ⟨rfl, fun a => by fin_cases a <;> simp <;> omega⟩
    (fun a => by fin_cases a <;> simp [h0, h1, h2])]
  pointwise
  by_cases e : i.val = n
  · rw [if_pos e, dif_pos (by simp; omega)]
    refine congrArg u (funext fun k => Fin.ext ?_)
    match k with
    | ⟨0, _⟩ => show i.val - n = 0; omega
    | ⟨1, _⟩ => rfl
    | ⟨2, _⟩ => rfl
  · rw [if_neg e, dif_neg (by simp; omega)]

/-- A four-axis array with level `n`'s block replaced. -/
theorem put4 (x : (⟨4, ![9, A, B, C]⟩ : Shape).Idx → α) (u : (⟨4, ![1, A, B, C]⟩ : Shape).Idx → α) (st : Fin 4 → ℤ)
    (h : (⟨4, ![9, A, B, C]⟩ : Shape).Slices (fun _ => 0) ⟨4, ![1, A, B, C]⟩)
    (h0 : st 0 = n) (h1 : st 1 = 0) (h2 : st 2 = 0) (h3 : st 3 = 0) (i : Fin 9) (a : Fin A) (b : Fin B) (c : Fin C) :
    Host.dynamicUpdateSlice x u st h (ix4 i a b c) = if i.val = n then u (ix4 (0 : Fin 1) a b c) else x (ix4 i a b c) := by
  have ha := a.isLt
  have hb := b.isLt
  have hc := c.isLt
  rw [WordCmp.dynamicUpdateSlice_eq_update x u st h ![n, 0, 0, 0] ⟨rfl, fun a => by fin_cases a <;> simp <;> omega⟩
    (fun a => by fin_cases a <;> simp [h0, h1, h2, h3])]
  pointwise
  by_cases e : i.val = n
  · rw [if_pos e, dif_pos (by simp; omega)]
    refine congrArg u (funext fun k => Fin.ext ?_)
    match k with
    | ⟨0, _⟩ => show i.val - n = 0; omega
    | ⟨1, _⟩ => rfl
    | ⟨2, _⟩ => rfl
    | ⟨3, _⟩ => rfl
  · rw [if_neg e, dif_neg (by simp; omega)]

end Blocks

variable (V : Valuation τ sig (Elt Ideal))

section Slices
variable {n : ℕ} (hn : n < 9) (hV : V (Proc.devRef .tc main_v3_5) = fun _ => BitVec.ofNat 32 n)
include hn hV

/-- The level's word, read signed. -/
theorem level_toInt (i : S_.Idx) : BitVec.toInt (V (Proc.devRef .tc main_v3_5) i) = n := by
  rw [hV]; exact toInt_ofNat_of_lt (by omega)

/-- The level's projection into the code space. -/
theorem slice0 (c : Fin 8) (d : Fin 512) : after while0Ops0 V (Proc.devRef .tc main_while0b_v7) (ix2 c d)
    = V (Proc.devRef .tc main_v3_0) (ix3 (⟨n, hn⟩ : Fin 9) c d) := by
  after_reads_at
  refine at3 hn _ _ _ ?_ ?_ ?_ _ _ _ _ _
  · show BitVec.toInt (upto while0Ops0 V 2 (Proc.devRef .tc main_v3_5) _) = _
    after_reads_simp
    exact level_toInt V hn hV _
  · show BitVec.toInt (upto while0Ops0 V 2 (Proc.devRef .tc main_while0b_call0_c) _) = _
    after_reads_simp
    rfl
  · show BitVec.toInt (upto while0Ops0 V 2 (Proc.devRef .tc main_while0b_call0_c_0) _) = _
    after_reads_simp
    rfl

/-- The level's bias in the code space. -/
theorem slice1 (c : Fin 8) : after while0Ops0_1 V (Proc.devRef .tc main_while0b_v8) (ix1 c)
    = V (Proc.devRef .tc main_v3_1) (ix2 (⟨n, hn⟩ : Fin 9) c) := by
  after_reads_at
  refine at2 hn _ _ _ ?_ ?_ _ _ _
  · show BitVec.toInt (upto while0Ops0_1 V 1 (Proc.devRef .tc main_v3_5) _) = _
    after_reads_simp
    exact level_toInt V hn hV _
  · show BitVec.toInt (upto while0Ops0_1 V 1 (Proc.devRef .tc main_while0b_call1_c) _) = _
    after_reads_simp
    rfl

/-- The level's projection out of the code space. -/
theorem slice2 (d : Fin 512) (c : Fin 8) : after while0Ops0_2 V (Proc.devRef .tc main_while0b_v9) (ix2 d c)
    = V (Proc.devRef .tc main_v3_2) (ix3 (⟨n, hn⟩ : Fin 9) d c) := by
  after_reads_at
  refine at3 hn _ _ _ ?_ ?_ ?_ _ _ _ _ _
  · show BitVec.toInt (upto while0Ops0_2 V 2 (Proc.devRef .tc main_v3_5) _) = _
    after_reads_simp
    exact level_toInt V hn hV _
  · show BitVec.toInt (upto while0Ops0_2 V 2 (Proc.devRef .tc main_while0b_call2_c) _) = _
    after_reads_simp
    rfl
  · show BitVec.toInt (upto while0Ops0_2 V 2 (Proc.devRef .tc main_while0b_call2_c_0) _) = _
    after_reads_simp
    rfl

/-- The level's bias out of it. -/
theorem slice3 (d : Fin 512) : after while0Ops0_3 V (Proc.devRef .tc main_while0b_v10) (ix1 d)
    = V (Proc.devRef .tc main_v3_3) (ix2 (⟨n, hn⟩ : Fin 9) d) := by
  after_reads_at
  refine at2 hn _ _ _ ?_ ?_ _ _ _
  · show BitVec.toInt (upto while0Ops0_3 V 1 (Proc.devRef .tc main_v3_5) _) = _
    after_reads_simp
    exact level_toInt V hn hV _
  · show BitVec.toInt (upto while0Ops0_3 V 1 (Proc.devRef .tc main_while0b_call3_c) _) = _
    after_reads_simp
    rfl

/-- The level's codebook. -/
theorem slice4 (k : Fin 1024) (c : Fin 8) : after while0Ops0_4 V (Proc.devRef .tc main_while0b_v11) (ix2 k c)
    = V (Proc.devRef .tc main_v3_4) (ix3 (⟨n, hn⟩ : Fin 9) k c) := by
  after_reads_at
  refine at3 hn _ _ _ ?_ ?_ ?_ _ _ _ _ _
  · show BitVec.toInt (upto while0Ops0_4 V 2 (Proc.devRef .tc main_v3_5) _) = _
    after_reads_simp
    exact level_toInt V hn hV _
  · show BitVec.toInt (upto while0Ops0_4 V 2 (Proc.devRef .tc main_while0b_call4_c) _) = _
    after_reads_simp
    rfl
  · show BitVec.toInt (upto while0Ops0_4 V 2 (Proc.devRef .tc main_while0b_call4_c_0) _) = _
    after_reads_simp
    rfl

/-- The codes' array with the level's codes put in. -/
theorem put_codes (i : Fin 9) (b : Fin 16) (t : Fin 4096) : after while0Ops0_13 V (Proc.devRef .tc main_while0b_v74) (ix3 i b t)
    = if i.val = n then V (Proc.devRef .tc main_while0b_v48) (ix2 b t) else V (Proc.devRef .tc main_v3_10) (ix3 i b t) := by
  after_reads_simp
  simp -implicitDefEqProofs only [StableHlo.TRef.toBuf, StableHlo.TRef.ofBuf, cast_cast, cast_eq]
  refine (put3 hn _ _ _ _ ?_ ?_ ?_ _ _ _).trans ?_
  · show BitVec.toInt (upto while0Ops0_13 V 3 (Proc.devRef .tc main_v3_5) _) = _
    after_reads_simp
    exact level_toInt V hn hV _
  · show BitVec.toInt (upto while0Ops0_13 V 3 (Proc.devRef .tc main_while0b_call9_c) _) = _
    after_reads_simp
    rfl
  · show BitVec.toInt (upto while0Ops0_13 V 3 (Proc.devRef .tc main_while0b_call9_c_0) _) = _
    after_reads_simp
    rfl
  · clean_types
    pointwise

/-- The latents' array with the level's latents put in. -/
theorem put_latents (i : Fin 9) (b : Fin 16) (c : Fin 8) (t : Fin 4096) :
    after while0Ops0_14 V (Proc.devRef .tc main_while0b_v75) (ix4 i b c t)
      = if i.val = n then V (Proc.devRef .tc main_while0b_v16) (ix3 b c t) else V (Proc.devRef .tc main_v3_11) (ix4 i b c t) := by
  after_reads_simp
  simp -implicitDefEqProofs only [StableHlo.TRef.toBuf, StableHlo.TRef.ofBuf, cast_cast, cast_eq]
  refine (put4 hn _ _ _ _ ?_ ?_ ?_ ?_ _ _ _ _).trans ?_
  · show BitVec.toInt (upto while0Ops0_14 V 4 (Proc.devRef .tc main_v3_5) _) = _
    after_reads_simp
    exact level_toInt V hn hV _
  · show BitVec.toInt (upto while0Ops0_14 V 4 (Proc.devRef .tc main_while0b_call10_c) _) = _
    after_reads_simp
    rfl
  · show BitVec.toInt (upto while0Ops0_14 V 4 (Proc.devRef .tc main_while0b_call10_c_0) _) = _
    after_reads_simp
    rfl
  · show BitVec.toInt (upto while0Ops0_14 V 4 (Proc.devRef .tc main_while0b_call10_c_1) _) = _
    after_reads_simp
    rfl
  · clean_types
    pointwise

end Slices

section Level
variable {L : Lvl} {R : Fin 16 → Fin 4096 → Fin 512 → ℝ}

set_option maxRecDepth 100000 in
/-- The residuals projected into the code space. -/
theorem latents (h7 : ∀ c d, V (Proc.devRef .tc main_while0b_v7) (ix2 c d) = ((L.Wi c d : ℝ) : EReal))
    (h8 : ∀ c, V (Proc.devRef .tc main_while0b_v8) (ix1 c) = ((L.bi c : ℝ) : EReal))
    (hR : ∀ b d t, V (Proc.devRef .tc main_v3_7) (ix3 b d t) = ((R b t d : ℝ) : EReal)) (b : Fin 16) (c : Fin 8) (t : Fin 4096) :
    after while0Ops0_5 V (Proc.devRef .tc main_while0b_v16) (ix3 b c t) = ((zE L (R b t) c : ℝ) : EReal) := by
  after_reads_at
  simp only [h7, h8, hR, mul_comm (((R _ _ _ : ℝ) : EReal)), ← EReal.coe_mul, ← coe_sum, ← EReal.coe_add]
  rfl

set_option maxRecDepth 100000 in
/-- The same, in rows. -/
theorem latents_rows (h7 : ∀ c d, V (Proc.devRef .tc main_while0b_v7) (ix2 c d) = ((L.Wi c d : ℝ) : EReal))
    (h8 : ∀ c, V (Proc.devRef .tc main_while0b_v8) (ix1 c) = ((L.bi c : ℝ) : EReal))
    (hR : ∀ b d t, V (Proc.devRef .tc main_v3_7) (ix3 b d t) = ((R b t d : ℝ) : EReal)) (r : Fin 65536) (c : Fin 8) :
    after while0Ops0_5 V (Proc.devRef .tc main_while0b_v18) (ix2 r c) = ((zE L (R (batch r) (time r)) c : ℝ) : EReal) := by
  after_reads_at
  simp only [h7, h8, hR, mul_comm (((R _ _ _ : ℝ) : EReal)), ← EReal.coe_mul, ← coe_sum, ← EReal.coe_add]
  rfl

/-- The rows' lengths, before the floor. -/
theorem norm_rows {u : Fin 65536 → Fin 8 → ℝ} (h18 : ∀ r c, V (Proc.devRef .tc main_while0b_v18) (ix2 r c) = ((u r c : ℝ) : EReal))
    (r : Fin 65536) (a : Fin 1) : after while0Ops0_6 V (Proc.devRef .tc main_while0b_v19) (ix2 r a)
    = Ideal.sqrt (∑ c, ((u r c : ℝ) : EReal) * ((u r c : ℝ) : EReal)) := by
  after_reads_at
  simp only [h18]

/-- The rows' directions. -/
theorem dir_rows {u : Fin 65536 → Fin 8 → ℝ} (h18 : ∀ r c, V (Proc.devRef .tc main_while0b_v18) (ix2 r c) = ((u r c : ℝ) : EReal))
    (h19 : ∀ r (a : Fin 1), V (Proc.devRef .tc main_while0b_v19) (ix2 r a) = Ideal.sqrt (∑ c, ((u r c : ℝ) : EReal) * ((u r c : ℝ) : EReal)))
    (r : Fin 65536) (c : Fin 8) : after while0Ops0_7 V (Proc.devRef .tc main_while0b_v23) (ix2 r c) = ((dir (u r) c : ℝ) : EReal) := by
  after_reads_at
  rw [show (730643660#32 : BitVec 32) = 0x2B8CBCCC#32 from rfl, ofBits_eps]
  simp only [h18, h19]
  exact div_len (u r) c

/-- The codes' lengths, before the floor. -/
theorem norm_codes (h11 : ∀ k c, V (Proc.devRef .tc main_while0b_v11) (ix2 k c) = ((L.cb k c : ℝ) : EReal))
    (k : Fin 1024) (a : Fin 1) : after while0Ops0_8 V (Proc.devRef .tc main_while0b_v24) (ix2 k a)
    = Ideal.sqrt (∑ c, ((L.cb k c : ℝ) : EReal) * ((L.cb k c : ℝ) : EReal)) := by
  after_reads_at
  simp only [h11]

set_option maxRecDepth 100000 in
/-- The distances, negated: each code's score less a number of the row's own. -/
theorem neg_dist {u : Fin 65536 → Fin 8 → ℝ} (h11 : ∀ k c, V (Proc.devRef .tc main_while0b_v11) (ix2 k c) = ((L.cb k c : ℝ) : EReal))
    (h24 : ∀ k (a : Fin 1), V (Proc.devRef .tc main_while0b_v24) (ix2 k a) = Ideal.sqrt (∑ c, ((L.cb k c : ℝ) : EReal) * ((L.cb k c : ℝ) : EReal)))
    (h23 : ∀ r c, V (Proc.devRef .tc main_while0b_v23) (ix2 r c) = ((u r c : ℝ) : EReal)) (r : Fin 65536) (k : Fin 1024) :
    after while0Ops0_9 V (Proc.devRef .tc main_while0b_v43) (ix2 r k) = ((score L (u r) k - ∑ c, u r c * u r c : ℝ) : EReal) := by
  after_reads_at
  rw [show (730643660#32 : BitVec 32) = 0x2B8CBCCC#32 from rfl, ofBits_eps,
    show (1073741824#32 : BitVec 32) = 0x40000000#32 from rfl, ofBits_two]
  simp only [h11, h24, h23, div_len]
  rw [← neg_dist_eq]
  simp only [EReal.coe_neg, EReal.coe_add, EReal.coe_sub, EReal.coe_mul, coe_sum]

/-- The codes chosen. -/
theorem codes_rows {g : Fin 65536 → Fin 1024 → ℝ} (h43 : ∀ r k, V (Proc.devRef .tc main_while0b_v43) (ix2 r k) = ((g r k : ℝ) : EReal))
    (r : Fin 65536) : after while0Ops0_10 V (Proc.devRef .tc main_while0b_v44) (ix1 r) = BitVec.ofNat 32 (firstMax (g r)).val := by
  after_reads_at
  exact argmax_apply _ _ _ _ rfl rfl r (g r) (h43 r) fun k => rfl

/-- A code is no negative number. -/
theorem slt_zero (k : Fin 1024) : IntOp.cmpi .slt (BitVec.ofNat 32 k.val) 0#32 = 0#1 := by
  revert k; decide +kernel

/-- A code's index is in range. -/
theorem in_range (k : Fin 1024) : IntOp.andi (IntOp.cmpi .sge (BitVec.ofNat 32 k.val) 0#32) (IntOp.cmpi .sle (BitVec.ofNat 32 k.val) 1023#32) = 1#1 := by
  revert k; decide +kernel

set_option maxRecDepth 100000 in
/-- The codes' vectors. -/
theorem quantized_rows {n : Fin 65536 → Fin 1024} (h44 : ∀ r, V (Proc.devRef .tc main_while0b_v44) (ix1 r) = BitVec.ofNat 32 (n r).val)
    (r : Fin 65536) (c : Fin 8) : after while0Ops0_11 V (Proc.devRef .tc main_while0b_v45) (ix2 r c)
      = V (Proc.devRef .tc main_while0b_v11) (ix2 (n r) c) := by
  after_reads_at
  rw [gather_apply _ _ r c (n r)]
  · have hs : ∀ a b : BitVec 32, Scalar.select 0#1 a b = b := fun _ _ => rfl
    simp only [h44, slt_zero, hs, in_range]
    rfl
  · pointwise
    rw [h44, slt_zero]
    rfl

set_option maxRecDepth 100000 in
/-- The level's codes, in batches. -/
theorem codes_at (b : Fin 16) (t : Fin 4096) : after while0Ops0_12 V (Proc.devRef .tc main_while0b_v48) (ix2 b t)
    = V (Proc.devRef .tc main_while0b_v44) (ix1 (row b t)) := by
  after_reads_at
  rfl

section Update
variable (h16 : ∀ b c t, V (Proc.devRef .tc main_while0b_v16) (ix3 b c t) = ((zE L (R b t) c : ℝ) : EReal))
  (h45 : ∀ b t c, V (Proc.devRef .tc main_while0b_v45) (ix2 (row b t) c) = ((zQ L (R b t) c : ℝ) : EReal))
include h16 h45

/-- The level's mean squared error, averaged over the batches. -/
def meanErr (L : Lvl) (R : Fin 16 → Fin 4096 → Fin 512 → ℝ) : ℝ := (∑ b, ∑ t, err L (R b t)) / 524288

set_option maxRecDepth 100000 in
/-- The commitment loss with the level's term added. -/
theorem commitment {a : ℝ} (h8 : ∀ j, V (Proc.devRef .tc main_v3_8) j = ((a : ℝ) : EReal)) (j : S_.Idx) :
    after while0Ops0_12 V (Proc.devRef .tc main_while0b_v70) j = ((a + meanErr L R : ℝ) : EReal) := by
  after_reads_at
  simp only [show ∀ (b : Fin 16) (t : Fin 4096) h, (⟨b.val * 4096 + t.val, h⟩ : Fin 65536) = row b t from fun _ _ _ => rfl, h16, h45, h8]
  rw [show (1191182336#32 : BitVec 32) = 0x47000000#32 from rfl, ofBits_32768,
    show (1098907648#32 : BitVec 32) = 0x41800000#32 from rfl, ofBits_16]
  simp only [← EReal.coe_sub, ← EReal.coe_mul, ← coe_sum, div_real _ (show (32768 : ℝ) ≠ 0 by norm_num), div_real _ (show (16 : ℝ) ≠ 0 by norm_num), ← EReal.coe_add]
  congr 2
  unfold meanErr err
  rw [← Finset.sum_div, div_div]
  norm_num
  refine Finset.sum_congr rfl fun b _ => ?_
  rw [Finset.sum_comm]

set_option maxRecDepth 100000 in
/-- The codebook loss with the level's term added. -/
theorem codebook {a : ℝ} (h9 : ∀ j, V (Proc.devRef .tc main_v3_9) j = ((a : ℝ) : EReal)) (j : S_.Idx) :
    after while0Ops0_12 V (Proc.devRef .tc main_while0b_v73) j = ((a + meanErr L R : ℝ) : EReal) := by
  after_reads_at
  simp only [show ∀ (b : Fin 16) (t : Fin 4096) h, (⟨b.val * 4096 + t.val, h⟩ : Fin 65536) = row b t from fun _ _ _ => rfl, h16, h45, h9]
  rw [show (1191182336#32 : BitVec 32) = 0x47000000#32 from rfl, ofBits_32768,
    show (1098907648#32 : BitVec 32) = 0x41800000#32 from rfl, ofBits_16]
  simp only [← EReal.coe_sub, ← EReal.coe_mul, ← coe_sum, div_real _ (show (32768 : ℝ) ≠ 0 by norm_num), div_real _ (show (16 : ℝ) ≠ 0 by norm_num), ← EReal.coe_add]
  congr 2
  unfold meanErr err
  rw [← Finset.sum_div, div_div]
  norm_num
  refine Finset.sum_congr rfl fun b _ => ?_
  rw [Finset.sum_comm]
  refine Finset.sum_congr rfl fun t _ => Finset.sum_congr rfl fun c _ => ?_
  ring

variable (h9 : ∀ d c, V (Proc.devRef .tc main_while0b_v9) (ix2 d c) = ((L.Wo d c : ℝ) : EReal))
  (h10 : ∀ d, V (Proc.devRef .tc main_while0b_v10) (ix1 d) = ((L.bo d : ℝ) : EReal))
include h9 h10

set_option maxRecDepth 100000 in
/-- The quantized sum with the level's output added. -/
theorem quantized {q : Fin 16 → Fin 4096 → Fin 512 → ℝ} (h6 : ∀ b d t, V (Proc.devRef .tc main_v3_6) (ix3 b d t) = ((q b t d : ℝ) : EReal))
    (b : Fin 16) (d : Fin 512) (t : Fin 4096) :
    after while0Ops0_12 V (Proc.devRef .tc main_while0b_v66) (ix3 b d t) = ((q b t d + out L (R b t) d : ℝ) : EReal) := by
  after_reads_at
  simp only [show ∀ (b : Fin 16) (t : Fin 4096) h, (⟨b.val * 4096 + t.val, h⟩ : Fin 65536) = row b t from fun _ _ _ => rfl, h16, h45, h6, h9, h10]
  simp only [← EReal.coe_sub, ← EReal.coe_mul, ← coe_sum, ← EReal.coe_add]
  congr 3
  refine Finset.sum_congr rfl fun c _ => ?_
  ring

set_option maxRecDepth 100000 in
/-- The residual with the level's output taken away. -/
theorem residual (hR : ∀ b d t, V (Proc.devRef .tc main_v3_7) (ix3 b d t) = ((R b t d : ℝ) : EReal))
    (b : Fin 16) (d : Fin 512) (t : Fin 4096) :
    after while0Ops0_12 V (Proc.devRef .tc main_while0b_v67) (ix3 b d t) = ((next L (R b t) d : ℝ) : EReal) := by
  after_reads_at
  simp only [show ∀ (b : Fin 16) (t : Fin 4096) h, (⟨b.val * 4096 + t.val, h⟩ : Fin 65536) = row b t from fun _ _ _ => rfl, h16, h45, hR, h9, h10]
  simp only [← EReal.coe_sub, ← EReal.coe_mul, ← coe_sum, ← EReal.coe_add]
  congr 1
  unfold next out
  refine congrArg (fun x => R b t d - (x + L.bo d)) (Finset.sum_congr rfl fun c _ => ?_)
  ring

end Update

end Level

end Cert.Rvq.Ref
-- ==== Proof.RefTrip.lean ====
/-
  ONE TRIP of the reference's level loop, as its seventeen stretches in order, and what a trip does to the loop's carried
  arrays: it advances them from level `k` to level `k + 1` of the specification.
-/
module

public import proofs.«01_k».proof.Proof.RefStretch

@[expose] public section

noncomputable section

namespace Cert.Rvq.Ref

open Idealize.ShloMosaic Idealize.ShloMosaic.TcCoe Cert.ReferenceIdeal Cert.ReferenceIdeal.Gen Cert.ReferenceIdeal.Value
open Idealize.ShloMosaic.StableHlo
open scoped BigOperators

variable {F : FTy → Type} [FloatOps F]

/-! ## The contents after the loop's test and after each stretch of its body -/

section Contents
variable (X : Valuation τ sig (Elt F))

def T0 : Valuation τ sig (Elt F) := after condOps X
def T1 : Valuation τ sig (Elt F) := after while0Ops0 (T0 X)
def T2 : Valuation τ sig (Elt F) := after while0Ops0_1 (T1 X)
def T3 : Valuation τ sig (Elt F) := after while0Ops0_2 (T2 X)
def T4 : Valuation τ sig (Elt F) := after while0Ops0_3 (T3 X)
def T5 : Valuation τ sig (Elt F) := after while0Ops0_4 (T4 X)
def T6 : Valuation τ sig (Elt F) := after while0Ops0_5 (T5 X)
def T7 : Valuation τ sig (Elt F) := after while0Ops0_6 (T6 X)
def T8 : Valuation τ sig (Elt F) := after while0Ops0_7 (T7 X)
def T9 : Valuation τ sig (Elt F) := after while0Ops0_8 (T8 X)
def T10 : Valuation τ sig (Elt F) := after while0Ops0_9 (T9 X)
def T11 : Valuation τ sig (Elt F) := after while0Ops0_10 (T10 X)
def T12 : Valuation τ sig (Elt F) := after while0Ops0_11 (T11 X)
def T13 : Valuation τ sig (Elt F) := after while0Ops0_12 (T12 X)
def T14 : Valuation τ sig (Elt F) := after while0Ops0_13 (T13 X)
def T15 : Valuation τ sig (Elt F) := after while0Ops0_14 (T14 X)
def T16 : Valuation τ sig (Elt F) := after while0Ops0_15 (T15 X)

/-- A stretch leaves every buffer that it does not write. -/
theorem keep {ops : List (HloOp τ sig (Elt F))} {W : List (Ref sig .tc)}
    (hW : ops.Forall fun op => op.writes ⊆ (W.map (Proc.devRef (τ := τ) .tc)).toFinset) (V : Valuation τ sig (Elt F))
    (b : Ref sig .tc) (hb : b ∉ W) : after ops V (Proc.devRef .tc b) = V (Proc.devRef .tc b) :=
  after_of_writes_sub ops V hW hb

/-- The same of all the stretches of a trip. -/
theorem keeps :
    (∀ b : Ref sig .tc, b ∉ condOps_W → T0 X (Proc.devRef .tc b) = X (Proc.devRef .tc b)) ∧
    (∀ b : Ref sig .tc, b ∉ while0Ops0_W → T1 X (Proc.devRef .tc b) = T0 X (Proc.devRef .tc b)) ∧
    (∀ b : Ref sig .tc, b ∉ while0Ops0_1_W → T2 X (Proc.devRef .tc b) = T1 X (Proc.devRef .tc b)) ∧
    (∀ b : Ref sig .tc, b ∉ while0Ops0_2_W → T3 X (Proc.devRef .tc b) = T2 X (Proc.devRef .tc b)) ∧
    (∀ b : Ref sig .tc, b ∉ while0Ops0_3_W → T4 X (Proc.devRef .tc b) = T3 X (Proc.devRef .tc b)) ∧
    (∀ b : Ref sig .tc, b ∉ while0Ops0_4_W → T5 X (Proc.devRef .tc b) = T4 X (Proc.devRef .tc b)) ∧
    (∀ b : Ref sig .tc, b ∉ while0Ops0_5_W → T6 X (Proc.devRef .tc b) = T5 X (Proc.devRef .tc b)) ∧
    (∀ b : Ref sig .tc, b ∉ while0Ops0_6_W → T7 X (Proc.devRef .tc b) = T6 X (Proc.devRef .tc b)) ∧
    (∀ b : Ref sig .tc, b ∉ while0Ops0_7_W → T8 X (Proc.devRef .tc b) = T7 X (Proc.devRef .tc b)) ∧
    (∀ b : Ref sig .tc, b ∉ while0Ops0_8_W → T9 X (Proc.devRef .tc b) = T8 X (Proc.devRef .tc b)) ∧
    (∀ b : Ref sig .tc, b ∉ while0Ops0_9_W → T10 X (Proc.devRef .tc b) = T9 X (Proc.devRef .tc b)) ∧
    (∀ b : Ref sig .tc, b ∉ while0Ops0_10_W → T11 X (Proc.devRef .tc b) = T10 X (Proc.devRef .tc b)) ∧
    (∀ b : Ref sig .tc, b ∉ while0Ops0_11_W → T12 X (Proc.devRef .tc b) = T11 X (Proc.devRef .tc b)) ∧
    (∀ b : Ref sig .tc, b ∉ while0Ops0_12_W → T13 X (Proc.devRef .tc b) = T12 X (Proc.devRef .tc b)) ∧
    (∀ b : Ref sig .tc, b ∉ while0Ops0_13_W → T14 X (Proc.devRef .tc b) = T13 X (Proc.devRef .tc b)) ∧
    (∀ b : Ref sig .tc, b ∉ while0Ops0_14_W → T15 X (Proc.devRef .tc b) = T14 X (Proc.devRef .tc b)) ∧
    (∀ b : Ref sig .tc, b ∉ while0Ops0_15_W → T16 X (Proc.devRef .tc b) = T15 X (Proc.devRef .tc b)) :=
  ⟨keep condOps_writes _, keep while0Ops0_writes _, keep while0Ops0_1_writes _, keep while0Ops0_2_writes _, keep while0Ops0_3_writes _, keep while0Ops0_4_writes _, keep while0Ops0_5_writes _, keep while0Ops0_6_writes _, keep while0Ops0_7_writes _, keep while0Ops0_8_writes _, keep while0Ops0_9_writes _, keep while0Ops0_10_writes _, keep while0Ops0_11_writes _, keep while0Ops0_12_writes _, keep while0Ops0_13_writes _, keep while0Ops0_14_writes _, keep while0Ops0_15_writes _⟩

/-- A trip is those stretches. -/
theorem trip_eq : afterL bodyI (after condOps X) = T16 X := rfl

end Contents

/-- The carried arrays at the start of level `k`: the level's number, the parameters, what has been quantized so far, the
    residuals, the two losses so far, and the codes and latents of the levels so far. -/
structure At (P : Fin 9 → Lvl) (z : Fin 16 → Fin 4096 → Fin 512 → ℝ) (k : ℕ) (X : Valuation τ sig (Elt Ideal)) : Prop where
  level : X (Proc.devRef .tc main_v3_5) = fun _ => BitVec.ofNat 32 k
  p0 : ∀ i c d, X (Proc.devRef .tc main_v3_0) (ix3 i c d) = (((P i).Wi c d : ℝ) : EReal)
  p1 : ∀ i c, X (Proc.devRef .tc main_v3_1) (ix2 i c) = (((P i).bi c : ℝ) : EReal)
  p2 : ∀ i d c, X (Proc.devRef .tc main_v3_2) (ix3 i d c) = (((P i).Wo d c : ℝ) : EReal)
  p3 : ∀ i d, X (Proc.devRef .tc main_v3_3) (ix2 i d) = (((P i).bo d : ℝ) : EReal)
  p4 : ∀ i j c, X (Proc.devRef .tc main_v3_4) (ix3 i j c) = (((P i).cb j c : ℝ) : EReal)
  sum : ∀ b d t, X (Proc.devRef .tc main_v3_6) (ix3 b d t) = ((z b t d - res (seq P) (z b t) k d : ℝ) : EReal)
  rest : ∀ b d t, X (Proc.devRef .tc main_v3_7) (ix3 b d t) = ((res (seq P) (z b t) k d : ℝ) : EReal)
  commit : ∀ j, X (Proc.devRef .tc main_v3_8) j
    = ((∑ l ∈ Finset.range k, meanErr (seq P l) (fun b t => res (seq P) (z b t) l) : ℝ) : EReal)
  book : ∀ j, X (Proc.devRef .tc main_v3_9) j
    = ((∑ l ∈ Finset.range k, meanErr (seq P l) (fun b t => res (seq P) (z b t) l) : ℝ) : EReal)
  codes : ∀ i b t, i.val < k → X (Proc.devRef .tc main_v3_10) (ix3 i b t) = codeAt P z b i t
  lats : ∀ i b c t, i.val < k → X (Proc.devRef .tc main_v3_11) (ix4 i b c t)
    = ((zE (P i) (res (seq P) (z b t) i.val) c : ℝ) : EReal)

section Last
variable (X : Valuation τ sig (Elt F))

set_option maxRecDepth 100000 in
/-- The last stretch carries the new arrays over. -/
theorem carry : T16 X (Proc.devRef .tc main_v3_6) = T15 X (Proc.devRef .tc main_while0b_v66) ∧
    T16 X (Proc.devRef .tc main_v3_7) = T15 X (Proc.devRef .tc main_while0b_v67) ∧
    T16 X (Proc.devRef .tc main_v3_8) = T15 X (Proc.devRef .tc main_while0b_v70) ∧
    T16 X (Proc.devRef .tc main_v3_9) = T15 X (Proc.devRef .tc main_while0b_v73) ∧
    T16 X (Proc.devRef .tc main_v3_10) = T15 X (Proc.devRef .tc main_while0b_v74) ∧
    T16 X (Proc.devRef .tc main_v3_11) = T15 X (Proc.devRef .tc main_while0b_v75) := by
  refine ⟨?_, ?_, ?_, ?_, ?_, ?_⟩ <;>
  · unfold T16
    after_results
    rfl

end Last

/-- A TRIP advances the carried arrays one level. -/
theorem At.trip {P : Fin 9 → Lvl} {z : Fin 16 → Fin 4096 → Fin 512 → ℝ} {k : ℕ} {X : Valuation τ sig (Elt Ideal)}
    (H : At P z k X) (hk : k < 9) : At P z (k + 1) (T16 X) := by
  have K := keeps X
  have hl : seq P k = P ⟨k, hk⟩ := seq_val P ⟨k, hk⟩
  set L := P ⟨k, hk⟩ with hL
  set R : Fin 16 → Fin 4096 → Fin 512 → ℝ := fun b t => res (seq P) (z b t) k with hR
  -- the level's parameters
  have e7 : ∀ c d, T1 X (Proc.devRef .tc main_while0b_v7) (ix2 c d) = ((L.Wi c d : ℝ) : EReal) := fun c d => by
    refine (slice0 (T0 X) hk (by simp (discharger := decide +kernel) only [K]; exact H.level) c d).trans ?_
    simp (discharger := decide +kernel) only [K]; exact H.p0 _ _ _
  have e8 : ∀ c, T2 X (Proc.devRef .tc main_while0b_v8) (ix1 c) = ((L.bi c : ℝ) : EReal) := fun c => by
    refine (slice1 (T1 X) hk (by simp (discharger := decide +kernel) only [K]; exact H.level) c).trans ?_
    simp (discharger := decide +kernel) only [K]; exact H.p1 _ _
  have e9 : ∀ d c, T3 X (Proc.devRef .tc main_while0b_v9) (ix2 d c) = ((L.Wo d c : ℝ) : EReal) := fun d c => by
    refine (slice2 (T2 X) hk (by simp (discharger := decide +kernel) only [K]; exact H.level) d c).trans ?_
    simp (discharger := decide +kernel) only [K]; exact H.p2 _ _ _
  have e10 : ∀ d, T4 X (Proc.devRef .tc main_while0b_v10) (ix1 d) = ((L.bo d : ℝ) : EReal) := fun d => by
    refine (slice3 (T3 X) hk (by simp (discharger := decide +kernel) only [K]; exact H.level) d).trans ?_
    simp (discharger := decide +kernel) only [K]; exact H.p3 _ _
  have e11 : ∀ j c, T5 X (Proc.devRef .tc main_while0b_v11) (ix2 j c) = ((L.cb j c : ℝ) : EReal) := fun j c => by
    refine (slice4 (T4 X) hk (by simp (discharger := decide +kernel) only [K]; exact H.level) j c).trans ?_
    simp (discharger := decide +kernel) only [K]; exact H.p4 _ _ _
  -- the latents, their directions and the codes'
  have h7 : ∀ c d, T5 X (Proc.devRef .tc main_while0b_v7) (ix2 c d) = ((L.Wi c d : ℝ) : EReal) := by
    simp (discharger := decide +kernel) only [K]; exact e7
  have h8 : ∀ c, T5 X (Proc.devRef .tc main_while0b_v8) (ix1 c) = ((L.bi c : ℝ) : EReal) := by
    simp (discharger := decide +kernel) only [K]; exact e8
  have hr : ∀ b d t, T5 X (Proc.devRef .tc main_v3_7) (ix3 b d t) = ((R b t d : ℝ) : EReal) := by
    simp (discharger := decide +kernel) only [K]; exact H.rest
  have e16 : ∀ b c t, T6 X (Proc.devRef .tc main_while0b_v16) (ix3 b c t) = ((zE L (R b t) c : ℝ) : EReal) := latents (T5 X) h7 h8 hr
  have e18 : ∀ r c, T6 X (Proc.devRef .tc main_while0b_v18) (ix2 r c) = ((zE L (R (batch r) (time r)) c : ℝ) : EReal) :=
    latents_rows (T5 X) h7 h8 hr
  have e19 := norm_rows (T6 X) e18
  have e23 := dir_rows (T7 X) (u := fun r => zE L (R (batch r) (time r)))
    (by simp (discharger := decide +kernel) only [K]; exact e18) e19
  have e24 := norm_codes (T8 X) (L := L) (by simp (discharger := decide +kernel) only [K]; exact e11)
  -- the codes
  have e43 := neg_dist (T9 X) (L := L) (u := fun r => dir (zE L (R (batch r) (time r))))
    (by simp (discharger := decide +kernel) only [K]; exact e11) e24 (by simp (discharger := decide +kernel) only [K]; exact e23)
  have e44 : ∀ r, T11 X (Proc.devRef .tc main_while0b_v44) (ix1 r) = BitVec.ofNat 32 (code L (R (batch r) (time r))).val := fun r => by
    refine (codes_rows (T10 X) e43 r).trans ?_
    rw [firstMax_sub]
    rfl
  have e45 : ∀ b t c, T12 X (Proc.devRef .tc main_while0b_v45) (ix2 (row b t) c) = ((zQ L (R b t) c : ℝ) : EReal) := fun b t c => by
    refine (quantized_rows (T11 X) e44 (row b t) c).trans ?_
    simp (discharger := decide +kernel) only [K]
    rw [e11, batch_row, time_row]
    rfl
  -- the level's updates
  have h16 : ∀ b c t, T12 X (Proc.devRef .tc main_while0b_v16) (ix3 b c t) = ((zE L (R b t) c : ℝ) : EReal) := by
    simp (discharger := decide +kernel) only [K]; exact e16
  have h9 : ∀ d c, T12 X (Proc.devRef .tc main_while0b_v9) (ix2 d c) = ((L.Wo d c : ℝ) : EReal) := by
    simp (discharger := decide +kernel) only [K]; exact e9
  have h10 : ∀ d, T12 X (Proc.devRef .tc main_while0b_v10) (ix1 d) = ((L.bo d : ℝ) : EReal) := by
    simp (discharger := decide +kernel) only [K]; exact e10
  have hr' : ∀ b d t, T12 X (Proc.devRef .tc main_v3_7) (ix3 b d t) = ((R b t d : ℝ) : EReal) := by
    simp (discharger := decide +kernel) only [K]; exact H.rest
  have e48 : ∀ b t, T13 X (Proc.devRef .tc main_while0b_v48) (ix2 b t) = codeAt P z b ⟨k, hk⟩ t := fun b t => by
    refine (codes_at (T12 X) b t).trans ?_
    simp (discharger := decide +kernel) only [K]
    rw [e44, batch_row, time_row]
    rfl
  have e66 := quantized (T12 X) h16 e45 h9 h10 (q := fun b t d => z b t d - res (seq P) (z b t) k d)
    (by simp (discharger := decide +kernel) only [K]; exact H.sum)
  have e67 := residual (T12 X) h16 e45 h9 h10 hr'
  have e70 := commitment (T12 X) h16 e45 (by simp (discharger := decide +kernel) only [K]; exact H.commit)
  have e73 := codebook (T12 X) h16 e45 (by simp (discharger := decide +kernel) only [K]; exact H.book)
  have e74 := put_codes (T13 X) hk (by simp (discharger := decide +kernel) only [K]; exact H.level)
  have e75 := put_latents (T14 X) hk (by simp (discharger := decide +kernel) only [K]; exact H.level)
  obtain ⟨c6, c7, c8, c9, c10, c11⟩ := carry X
  have hs : ∀ b t d, res (seq P) (z b t) (k + 1) d = next L (R b t) d := fun b t d => by
    show next (seq P k) (res (seq P) (z b t) k) d = _
    rw [hl]
  constructor
  · rw [show T16 X (Proc.devRef .tc main_v3_5) = addi (T15 X (Proc.devRef .tc main_v3_5)) (constantI S_ 32 1#32) from ctr_step _]
    simp (discharger := decide +kernel) only [K]
    rw [H.level]
    funext _
    show BitVec.ofNat 32 k + 1#32 = _
    rw [show (1#32 : BitVec 32) = BitVec.ofNat 32 1 from rfl, ← BitVec.ofNat_add]
  · simp (discharger := decide +kernel) only [K]; exact H.p0
  · simp (discharger := decide +kernel) only [K]; exact H.p1
  · simp (discharger := decide +kernel) only [K]; exact H.p2
  · simp (discharger := decide +kernel) only [K]; exact H.p3
  · simp (discharger := decide +kernel) only [K]; exact H.p4
  · intro b d t
    rw [c6]
    simp (discharger := decide +kernel) only [K]
    refine (e66 b d t).trans ?_
    rw [hs]
    congr 1
    show z b t d - R b t d + out L (R b t) d = z b t d - (R b t d - out L (R b t) d)
    ring
  · intro b d t
    rw [c7]
    simp (discharger := decide +kernel) only [K]
    rw [hs]
    exact e67 b d t
  · intro j
    rw [c8]
    simp (discharger := decide +kernel) only [K]
    rw [Finset.sum_range_succ, hl]
    exact e70 j
  · intro j
    rw [c9]
    simp (discharger := decide +kernel) only [K]
    rw [Finset.sum_range_succ, hl]
    exact e73 j
  · intro i b t hi
    rw [c10]
    simp (discharger := decide +kernel) only [K]
    refine (e74 i b t).trans ?_
    split
    · rename_i hik
      obtain rfl : i = ⟨k, hk⟩ := Fin.ext hik
      exact e48 b t
    · simp (discharger := decide +kernel) only [K]
      exact H.codes i b t (by omega)
  · intro i b c t hi
    rw [c11]
    refine (e75 i b c t).trans ?_
    split
    · rename_i hik
      obtain rfl : i = ⟨k, hk⟩ := Fin.ext hik
      simp (discharger := decide +kernel) only [K]
      exact e16 b c t
    · simp (discharger := decide +kernel) only [K]
      exact H.lats i b c t (by omega)

end Cert.Rvq.Ref
-- ==== Proof.RefValue.lean ====
/-
  THE WHOLE REFERENCE: its loop enters with the carried arrays at level 0, nine trips advance them to level 9, and the
  operations after the loop lay the codes and the latents out as the results.
-/
module

public import proofs.«01_k».proof.Proof.RefTrip
public import Idealize.ShloMosaic.Lib.Quiescent

@[expose] public section

noncomputable section

namespace Cert.Rvq.Ref

open Idealize.ShloMosaic Idealize.ShloMosaic.TcCoe Idealize.SL.Sem Cert.ReferenceIdeal Cert.ReferenceIdeal.Gen Cert.ReferenceIdeal.Value
open Idealize.ShloMosaic.StableHlo
open scoped BigOperators

section Args
variable {F : FTy → Type} [FloatOps F] (m : (ℓ : Loc nD τ sig) → Buf (Elt F) ℓ)

/-- A trip leaves every buffer that none of its stretches writes. -/
theorem trip_keep (X : Valuation τ sig (Elt F)) (b : Ref sig .tc)
    (hb : b ∉ condOps_W ++ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ while0Ops0_10_W ++ while0Ops0_11_W
      ++ while0Ops0_12_W ++ while0Ops0_13_W ++ while0Ops0_14_W ++ while0Ops0_15_W) :
    T16 X (Proc.devRef .tc b) = X (Proc.devRef .tc b) := by
  simp only [List.mem_append, not_or] at hb
  obtain ⟨⟨⟨⟨⟨⟨⟨⟨⟨⟨⟨⟨⟨⟨⟨⟨c0, c1⟩, c2⟩, c3⟩, c4⟩, c5⟩, c6⟩, c7⟩, c8⟩, c9⟩, c10⟩, c11⟩, c12⟩, c13⟩, c14⟩, c15⟩, c16⟩ := hb
  obtain ⟨k0, k1, k2, k3, k4, k5, k6, k7, k8, k9, k10, k11, k12, k13, k14, k15, k16⟩ := keeps X
  rw [k16 b c16, k15 b c15, k14 b c14, k13 b c13, k12 b c12, k11 b c11, k10 b c10, k9 b c9, k8 b c8, k7 b c7, k6 b c6, k5 b c5,
    k4 b c4, k3 b c3, k2 b c2, k1 b c1, k0 b c0]

/-- So do any number of trips. -/
theorem trips_keep (c : Dev nD) (b : Ref sig .tc)
    (hb : b ∉ condOps_W ++ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ while0Ops0_10_W ++ while0Ops0_11_W
      ++ while0Ops0_12_W ++ while0Ops0_13_W ++ while0Ops0_14_W ++ while0Ops0_15_W) :
    ∀ k, atK m k c (Proc.devRef .tc b) = atK m 0 c (Proc.devRef .tc b)
  | 0 => rfl
  | k + 1 => (trip_keep (atK m k c) b hb).trans (trips_keep c b hb k)

/-- The last contents are the loop's last, after its failing test and the operations that follow it. -/
theorem final_eq (c : Dev nD) :
    finalContents condOps preI bodyI postI 9 m c = after hostOps0_1 (T0 (atK m 9 c)) := rfl

/-- What the operations after the loop leave is as the loop left it. -/
theorem final_keep (c : Dev nD) (b : Ref sig .tc) (h : b ∉ hostOps0_1_W) (h' : b ∉ condOps_W) :
    finalContents condOps preI bodyI postI 9 m c (Proc.devRef .tc b) = atK m 9 c (Proc.devRef .tc b) := by
  rw [final_eq]
  exact (keep hostOps0_1_writes _ b h).trans (keep condOps_writes _ b h')

/-- A buffer that nothing writes ends as it was launched. -/
theorem final_arg (c : Dev nD) (b : Ref sig .tc) (h : b ∉ hostOps0_W) (h' : b ∉ hostOps0_1_W)
    (hb : b ∉ condOps_W ++ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ while0Ops0_10_W ++ while0Ops0_11_W
      ++ while0Ops0_12_W ++ while0Ops0_13_W ++ while0Ops0_14_W ++ while0Ops0_15_W) :
    finalContents condOps preI bodyI postI 9 m c (Proc.devRef .tc b) = m ((c.tc : Thread nD τ).loc b) := by
  have hc : b ∉ condOps_W := fun hc => hb (by simp only [List.mem_append]; tauto)
  rw [final_keep m c b h' hc, trips_keep m c b hb 9]
  exact keep hostOps0_writes _ b h

variable (ρ : Dev nD → PrngReg)

/-- The reference runs to the end from any memory, leaves its arguments, and leaves every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run (defs (F := F)) _ _).mono (fun r h => ⟨fun c =>
    ⟨(h c main_arg0 rfl).trans (final_arg m c main_arg0 (by decide +kernel) (by decide +kernel) (by decide +kernel)),
     (h c main_arg1 rfl).trans (final_arg m c main_arg1 (by decide +kernel) (by decide +kernel) (by decide +kernel)),
     (h c main_arg2 rfl).trans (final_arg m c main_arg2 (by decide +kernel) (by decide +kernel) (by decide +kernel)),
     (h c main_arg3 rfl).trans (final_arg m c main_arg3 (by decide +kernel) (by decide +kernel) (by decide +kernel)),
     (h c main_arg4 rfl).trans (final_arg m c main_arg4 (by decide +kernel) (by decide +kernel) (by decide +kernel)),
     (h c main_arg5 rfl).trans (final_arg m c main_arg5 (by decide +kernel) (by decide +kernel) (by decide +kernel))⟩,
    Idealize.ShloMosaic.sem_eq_zero_of_no_sems (by decide) r.2⟩) (run_fold m ρ)

end Args

variable {P : Fin 9 → Lvl} {z : Fin 16 → Fin 4096 → Fin 512 → ℝ} {m : (ℓ : Loc nD τ sig) → Buf (Elt Ideal) ℓ} {c : Dev nD}

variable (m c) in
/-- The launch memory holds the column `z` and the levels' parameters `P`. -/
structure Given (P : Fin 9 → Lvl) (z : Fin 16 → Fin 4096 → Fin 512 → ℝ) : Prop where
  h0 : ∀ b d t, m ((c.tc : Thread nD τ).loc main_arg0) (ix3 b d t) = ((z b t d : ℝ) : EReal)
  h1 : ∀ i c' d, m ((c.tc : Thread nD τ).loc main_arg1) (ix3 i c' d) = (((P i).Wi c' d : ℝ) : EReal)
  h2 : ∀ i c', m ((c.tc : Thread nD τ).loc main_arg2) (ix2 i c') = (((P i).bi c' : ℝ) : EReal)
  h3 : ∀ i d c', m ((c.tc : Thread nD τ).loc main_arg3) (ix3 i d c') = (((P i).Wo d c' : ℝ) : EReal)
  h4 : ∀ i d, m ((c.tc : Thread nD τ).loc main_arg4) (ix2 i d) = (((P i).bo d : ℝ) : EReal)
  h5 : ∀ i k c', m ((c.tc : Thread nD τ).loc main_arg5) (ix3 i k c') = (((P i).cb k c' : ℝ) : EReal)

/-- What the loop enters with: copies of the arguments, and zeros. -/
theorem entry (V : Valuation τ sig (Elt Ideal)) :
    after hostOps0 V (Proc.devRef .tc main_v3_0) = V (Proc.devRef .tc main_arg1) ∧
    after hostOps0 V (Proc.devRef .tc main_v3_1) = V (Proc.devRef .tc main_arg2) ∧
    after hostOps0 V (Proc.devRef .tc main_v3_2) = V (Proc.devRef .tc main_arg3) ∧
    after hostOps0 V (Proc.devRef .tc main_v3_3) = V (Proc.devRef .tc main_arg4) ∧
    after hostOps0 V (Proc.devRef .tc main_v3_4) = V (Proc.devRef .tc main_arg5) ∧
    after hostOps0 V (Proc.devRef .tc main_v3_7) = V (Proc.devRef .tc main_arg0) ∧
    after hostOps0 V (Proc.devRef .tc main_v3_5) = constantI S_ 32 0#32 ∧
    after hostOps0 V (Proc.devRef .tc main_v3_8) = constant (F := Ideal) S_ .f32 0x00000000#32 ∧
    after hostOps0 V (Proc.devRef .tc main_v3_9) = constant (F := Ideal) S_ .f32 0x00000000#32 ∧
    after hostOps0 V (Proc.devRef .tc main_v3_6)
      = broadcastInDim S16x512x4096 ![] bcast_S_S16x512x4096 (constant (F := Ideal) S_ .f32 0x00000000#32) := by
  refine ⟨?_, ?_, ?_, ?_, ?_, ?_, ?_, ?_, ?_, ?_⟩ <;> · after_results; rfl

/-- At the loop's entry the carried arrays are at level 0. -/
theorem Given.zero (H : Given m c P z) : At P z 0 (atK m 0 c) := by
  obtain ⟨e0, e1, e2, e3, e4, e7, e5, e8, e9, e6⟩ := entry (launchContents m c)
  have hz : (FloatOps.ofBits (F := Ideal) .f32 0x00000000#32 : EReal) = ((0 : ℝ) : EReal) := by
    rw [EReal.coe_zero]; exact Ideal.ofBits_zero_f32
  exact {
    level := e5
    p0 := fun i c' d => (congrFun e0 _).trans (H.h1 i c' d)
    p1 := fun i c' => (congrFun e1 _).trans (H.h2 i c')
    p2 := fun i d c' => (congrFun e2 _).trans (H.h3 i d c')
    p3 := fun i d => (congrFun e3 _).trans (H.h4 i d)
    p4 := fun i k c' => (congrFun e4 _).trans (H.h5 i k c')
    sum := fun b d t => (congrFun e6 _).trans (hz.trans (by simp [res]))
    rest := fun b d t => (congrFun e7 _).trans (H.h0 b d t)
    commit := fun j => (congrFun e8 j).trans (hz.trans (by simp))
    book := fun j => (congrFun e9 j).trans (hz.trans (by simp))
    codes := fun _ _ _ h => absurd h (Nat.not_lt_zero _)
    lats := fun _ _ _ _ h => absurd h (Nat.not_lt_zero _) }

/-- After `k` trips they are at level `k`. -/
theorem Given.trips (H : Given m c P z) : ∀ k ≤ 9, At P z k (atK m k c)
  | 0, _ => H.zero
  | k + 1, h => (H.trips k (Nat.le_of_succ_le h)).trip h

/-- The operations after the loop exchange the codes' first two axes. -/
theorem post_codes (V : Valuation τ sig (Elt Ideal)) (b : Fin 16) (i : Fin 9) (t : Fin 4096) :
    after hostOps0_1 V (Proc.devRef .tc main_v4) (ix3 b i t) = V (Proc.devRef .tc main_v3_10) (ix3 i b t) := by
  after_reads_at

/-- They exchange the latents' too, and run the levels' coordinates together. -/
theorem post_latents (V : Valuation τ sig (Elt Ideal)) (b : Fin 16) (q : Fin 72) (t : Fin 4096) :
    after hostOps0_1 V (Proc.devRef .tc main_v6) (ix3 b q t)
      = V (Proc.devRef .tc main_v3_11) (ix4 (lev q) b (coord q) t) := by
  after_reads_at
  rfl

/-- The five results, read at an index. -/
theorem Given.results (H : Given m c P z) :
    (∀ b d t, finalContents condOps preI bodyI postI 9 m c (Proc.devRef .tc main_v3_6) (ix3 b d t)
      = ((z b t d - res (seq P) (z b t) 9 d : ℝ) : EReal)) ∧
    (∀ b i t, finalContents condOps preI bodyI postI 9 m c (Proc.devRef .tc main_v4) (ix3 b i t) = codeAt P z b i t) ∧
    (∀ b q t, finalContents condOps preI bodyI postI 9 m c (Proc.devRef .tc main_v6) (ix3 b q t)
      = ((zE (P (lev q)) (res (seq P) (z b t) (lev q).val) (coord q) : ℝ) : EReal)) ∧
    (∀ j, finalContents condOps preI bodyI postI 9 m c (Proc.devRef .tc main_v3_8) j
      = (((∑ l ∈ Finset.range 9, ∑ b, ∑ t, err (seq P l) (res (seq P) (z b t) l)) / 524288 : ℝ) : EReal)) ∧
    (∀ j, finalContents condOps preI bodyI postI 9 m c (Proc.devRef .tc main_v3_9) j
      = (((∑ l ∈ Finset.range 9, ∑ b, ∑ t, err (seq P l) (res (seq P) (z b t) l)) / 524288 : ℝ) : EReal)) := by
  have A := H.trips 9 le_rfl
  have hs : (∑ l ∈ Finset.range 9, meanErr (seq P l) (fun b t => res (seq P) (z b t) l))
      = (∑ l ∈ Finset.range 9, ∑ b, ∑ t, err (seq P l) (res (seq P) (z b t) l)) / 524288 := by
    rw [Finset.sum_div]; rfl
  refine ⟨fun b d t => ?_, fun b i t => ?_, fun b q t => ?_, fun j => ?_, fun j => ?_⟩
  · exact (congrFun (final_keep m c main_v3_6 (by decide +kernel) (by decide +kernel)) _).trans (A.sum b d t)
  · refine (congrFun (congrFun (final_eq m c) _) _).trans ((post_codes _ b i t).trans ?_)
    exact (congrFun (keep condOps_writes _ main_v3_10 (by decide +kernel)) _).trans (A.codes i b t i.isLt)
  · refine (congrFun (congrFun (final_eq m c) _) _).trans ((post_latents _ b q t).trans ?_)
    exact (congrFun (keep condOps_writes _ main_v3_11 (by decide +kernel)) _).trans (A.lats (lev q) b (coord q) t (lev q).isLt)
  · rw [← hs]
    exact (congrFun (final_keep m c main_v3_8 (by decide +kernel) (by decide +kernel)) j).trans (A.commit j)
  · rw [← hs]
    exact (congrFun (final_keep m c main_v3_9 (by decide +kernel) (by decide +kernel)) j).trans (A.book j)

end Cert.Rvq.Ref
-- ==== Proof.Finite.lean ====
/-
  THE PRECONDITION READ BACK: `finite` says of every element of every argument that its absolute value is below infinity, so
  every element is a real number.
-/
module

public import proofs.«01_k».proof.Pre_finite
public import proofs.«01_k».proof.Proof.Reals
public import Idealize.ShloMosaic.Lib.ReduceAll
public import Idealize.ShloMosaic.Lib.Decide

@[expose] public section

noncomputable section

namespace Cert.Rvq.Finite

open Idealize.ShloMosaic Cert.Pre_finite

/-- The shapes of the predicate's operations fit. -/
instance facts : Cert.Pre_finite.Facts where
  bcast_S_S16x512x4096 := by decide
  reducesTo_S16x512x4096_S_d0_1_2 := by decide
  h_S_ := by decide
  bcast_S_S9x8x512 := by decide
  reducesTo_S9x8x512_S_d0_1_2 := by decide
  bcast_S_S9x8 := by decide
  reducesTo_S9x8_S_d0_1 := by decide
  bcast_S_S9x512x8 := by decide
  reducesTo_S9x512x8_S_d0_1_2 := by decide
  bcast_S_S9x512 := by decide
  reducesTo_S9x512_S_d0_1 := by decide
  bcast_S_S9x1024x8 := by decide
  reducesTo_S9x1024x8_S_d0_1_2 := by decide

/-- A scalar array has one index. -/
instance one_index : Subsingleton S_.Idx := ⟨fun a b => funext fun i => i.elim0⟩

/-- A number whose absolute value is below infinity is real. -/
theorem real_of_lt (x : EReal) (h : max x (-x) < ⊤) : x = (x.toReal : EReal) :=
  (EReal.coe_toReal (fun e => by subst e; simp at h) (fun e => by subst e; simp at h)).symm

/-- One argument's part of the predicate: all its elements are real. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : x i = ((x i).toReal : EReal) := by
  have h := Host.reduce_andi_all _ _ hr hu j e i
  have h' : Ideal.cmp .olt (max (x i) (-(x i))) (FloatOps.ofBits (F := Ideal) .f32 0x7F800000#32) = 1#1 := h
  rw [Ideal.ofBits_def, ofBits_top] at h'
  refine real_of_lt _ ?_
  by_contra hn
  simp [Ideal.cmp, hn] at h'

/-- The predicate holds: every element of every argument is real. -/
theorem real_of_finite (x0 : FVec Ideal S16x512x4096 .f32) (x1 : FVec Ideal S9x8x512 .f32) (x2 : FVec Ideal S9x8 .f32)
    (x3 : FVec Ideal S9x512x8 .f32) (x4 : FVec Ideal S9x512 .f32) (x5 : FVec Ideal S9x1024x8 .f32)
    (h : fn (F := Ideal) x0 x1 x2 x3 x4 x5 = fun _ => 1#1) :
    (∀ i, x0 i = ((x0 i).toReal : EReal)) ∧ (∀ i, x1 i = ((x1 i).toReal : EReal)) ∧ (∀ i, x2 i = ((x2 i).toReal : EReal)) ∧
    (∀ i, x3 i = ((x3 i).toReal : EReal)) ∧ (∀ i, x4 i = ((x4 i).toReal : EReal)) ∧ (∀ i, x5 i = ((x5 i).toReal : EReal)) := by
  have split : ∀ a b : BitVec 1, IntOp.andi a b = 1#1 → a = 1#1 ∧ b = 1#1 := by decide
  have h0 := congrFun h (Shape.Idx.first Facts.h_S_)
  dsimp only [fn, fn_part1] at h0
  obtain ⟨h0, e5⟩ := split _ _ h0
  obtain ⟨h0, e4⟩ := split _ _ h0
  obtain ⟨h0, e3⟩ := split _ _ h0
  obtain ⟨h0, e2⟩ := split _ _ h0
  obtain ⟨e0, e1⟩ := split _ _ h0
  exact ⟨all_real x0 _ _ _ _ e0, all_real x1 _ _ _ _ e1, all_real x2 _ _ _ _ e2, all_real x3 _ _ _ _ e3,
    all_real x4 _ _ _ _ e4, all_real x5 _ _ _ _ e5⟩

end Cert.Rvq.Finite
-- ==== Proof.Agree.lean ====
/-
  THE VALUE CLAIM: from memories with the same finite arguments the kernel and the reference both end with the
  specification's five results.
-/
module

public import proofs.«01_k».proof.Defs
public import proofs.«01_k».proof.Proof.KernelRun
public import proofs.«01_k».proof.Proof.RefValue
public import proofs.«01_k».proof.Proof.Finite

@[expose] public section

noncomputable section

namespace Cert.Rvq

open Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

/-- An argument's element as a real number. -/
def argZ (b : Fin 16) (t : Fin 4096) (d : Fin 512) : ℝ :=
  EReal.toReal (m ((c.tc : Thread Cert.KernelIdeal.nD Cert.KernelIdeal.τ).loc Cert.KernelIdeal.main_arg0) (ix3 b d t))

/-- The levels' parameters as real numbers. -/
def argP (i : Fin 9) : Lvl where
  Wi c' d := EReal.toReal (m ((c.tc : Thread Cert.KernelIdeal.nD Cert.KernelIdeal.τ).loc Cert.KernelIdeal.main_arg1) (ix3 i c' d))
  bi c' := EReal.toReal (m ((c.tc : Thread Cert.KernelIdeal.nD Cert.KernelIdeal.τ).loc Cert.KernelIdeal.main_arg2) (ix2 i c'))
  Wo d c' := EReal.toReal (m ((c.tc : Thread Cert.KernelIdeal.nD Cert.KernelIdeal.τ).loc Cert.KernelIdeal.main_arg3) (ix3 i d c'))
  bo d := EReal.toReal (m ((c.tc : Thread Cert.KernelIdeal.nD Cert.KernelIdeal.τ).loc Cert.KernelIdeal.main_arg4) (ix2 i d))
  cb k c' := EReal.toReal (m ((c.tc : Thread Cert.KernelIdeal.nD Cert.KernelIdeal.τ).loc Cert.KernelIdeal.main_arg5) (ix3 i k c'))

variable {m}

/-- Under the precondition the kernel's memory holds those numbers. -/
theorem given (h : Cert.Pre_KernelIdeal_finite m) : Given m c (argP m c) (argZ m c) := by
  obtain ⟨r0, r1, r2, r3, r4, r5⟩ := Finite.real_of_finite _ _ _ _ _ _ (h c)
  exact ⟨fun _ _ _ => r0 _, fun _ _ _ => r1 _, fun _ _ => r2 _, fun _ _ _ => r3 _, fun _ _ => r4 _, fun _ _ _ => r5 _⟩

/-- So does the reference's, whose arguments are the same. -/
theorem given_ref {m' : (ℓ : Loc Cert.ReferenceIdeal.nD Cert.ReferenceIdeal.τ Cert.ReferenceIdeal.sig) → Buf (Elt Ideal) ℓ}
    {P : Fin 9 → Lvl} {z : Fin 16 → Fin 4096 → Fin 512 → ℝ} (H : Given m c P z)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Ref.Given m' c P z :=
  ⟨fun _ _ _ => (congrFun e.1 _).trans (H.h0 _ _ _), fun _ _ _ => (congrFun e.2.1 _).trans (H.h1 _ _ _),
    fun _ _ => (congrFun e.2.2.1 _).trans (H.h2 _ _), fun _ _ _ => (congrFun e.2.2.2.1 _).trans (H.h3 _ _ _),
    fun _ _ => (congrFun e.2.2.2.2.1 _).trans (H.h4 _ _), fun _ _ _ => (congrFun e.2.2.2.2.2 _).trans (H.h5 _ _ _)⟩

/-- Two rank-3 arrays that agree at every index `ix3` are equal. -/
theorem ext3 {a b d : Nat} {α : Type} {f g : (⟨3, ![a, b, d]⟩ : Shape).Idx → α} (h : ∀ i j k, f (ix3 i j k) = g (ix3 i j k)) : f = g := by
  funext x
  rw [show x = ix3 (x 0) (x 1) (x 2) from funext fun i => by fin_cases i <;> rfl]
  exact h _ _ _

section
open Cert.ReferenceIdeal Cert.ReferenceIdeal.Gen Cert.ReferenceIdeal.Value

/-- The reference computes the specification, and leaves its arguments as launched. -/
theorem reference_value {m' : (ℓ : Loc nD τ sig) → Buf (Elt Ideal) ℓ} (ρ : Dev nD → PrngReg) {P : Dev nD → Fin 9 → Lvl}
    {z : Dev nD → Fin 16 → Fin 4096 → Fin 512 → ℝ} (H : ∀ c, Ref.Given m' c (P c) (z c)) :
    θ_run (defs (F := Ideal)) (onTc (τ := τ) (main (F := Ideal))) ⟨m', fun _ => 0, ρ⟩ (fun r => ∀ c : Dev nD,
      r.2.mem ((c.tc : Thread nD τ).loc main_v3_6) = zqSpec (P c) (z c)
      ∧ r.2.mem ((c.tc : Thread nD τ).loc main_v4) = codesSpec (P c) (z c)
      ∧ r.2.mem ((c.tc : Thread nD τ).loc main_v6) = latentsSpec (P c) (z c)
      ∧ r.2.mem ((c.tc : Thread nD τ).loc main_v3_8) = lossSpec (P c) (z c)
      ∧ r.2.mem ((c.tc : Thread nD τ).loc main_v3_9) = lossSpec (P c) (z c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run (defs (F := Ideal)) _ _).mono (fun r h c => by
    obtain ⟨q, s, l, e, e'⟩ := (H c).results
    exact ⟨(h c main_v3_6 rfl).trans (ext3 q), (h c main_v4 rfl).trans (ext3 s), (h c main_v6 rfl).trans (ext3 l),
      (h c main_v3_8 rfl).trans (funext e), (h c main_v3_9 rfl).trans (funext e'),
      (h c main_arg0 rfl).trans (Ref.final_arg m' c main_arg0 (by decide +kernel) (by decide +kernel) (by decide +kernel)),
      (h c main_arg1 rfl).trans (Ref.final_arg m' c main_arg1 (by decide +kernel) (by decide +kernel) (by decide +kernel)),
      (h c main_arg2 rfl).trans (Ref.final_arg m' c main_arg2 (by decide +kernel) (by decide +kernel) (by decide +kernel)),
      (h c main_arg3 rfl).trans (Ref.final_arg m' c main_arg3 (by decide +kernel) (by decide +kernel) (by decide +kernel)),
      (h c main_arg4 rfl).trans (Ref.final_arg m' c main_arg4 (by decide +kernel) (by decide +kernel) (by decide +kernel)),
      (h c main_arg5 rfl).trans (Ref.final_arg m' c main_arg5 (by decide +kernel) (by decide +kernel) (by decide +kernel))⟩)
    (run_fold m' ρ)

end

/-- The value claim: all five results are equal at every finite input. -/
theorem agree : Cert.algebraic_KernelIdeal_ReferenceIdeal_pre_finite := fun m g m' g' hpre hargs =>
  have H : ∀ c, Given m c (argP m c) (argZ m c) := fun c => given c hpre
  ⟨fun c => zqSpec (argP m c) (argZ m c), fun c => codesSpec (argP m c) (argZ m c), fun c => latentsSpec (argP m c) (argZ m c),
    fun c => lossSpec (argP m c) (argZ m c), fun c => lossSpec (argP m c) (argZ m c),
    kernel_value g H, reference_value g' fun c => given_ref c (H c) (hargs c)⟩

end Cert.Rvq
-- ==== Proof.lean ====
/-
  The certificate: nine-level residual vector quantization. Each program runs to the end, leaves its arguments and leaves
  every counter at zero; the idealized kernel keeps the printed kernel's operations; and on finite arguments the idealized
  kernel and the reference end with the same five results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

/-- The printed kernel runs to the end and leaves its arguments, at every input. -/
theorem frame_p : Cert.quiescent_Kernel := fun m ρ _ => Cert.Kernel.Gen.frame m ρ

/-- So does the idealized kernel, -/
theorem frame_pi : Cert.quiescent_KernelIdeal := fun m ρ _ => Cert.KernelIdeal.Gen.frame m ρ

/-- and the reference. -/
theorem frame_ri : Cert.quiescent_ReferenceIdeal := fun m ρ _ => Cert.Rvq.Ref.frame m ρ

/-- All the claims together. -/
theorem claim : Cert.Claim :=
  ⟨Cert.Kernel.Gen.facts, Cert.KernelIdeal.Gen.facts, Cert.ReferenceIdeal.Gen.facts, Cert.Rvq.Finite.facts,
    frame_p, frame_pi, fun m ρ _ => Cert.KernelIdeal.Gen.frame m ρ, frame_ri, fun m ρ _ => Cert.Rvq.Ref.frame m ρ,
    trivial, Cert.Rvq.agree⟩

end Cert.Proof

end
